-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128 : Shape := ⟨1, ![128]⟩
abbrev S2x8x100000 : Shape := ⟨3, ![2, 8, 100000]⟩
abbrev S2 : Shape := ⟨1, ![2]⟩
abbrev S8x1024 : Shape := ⟨2, ![8, 1024]⟩
abbrev S1 : Shape := ⟨1, ![1]⟩
abbrev S_ : Shape := ⟨0, ![]⟩
abbrev S1x8x100000 : Shape := ⟨3, ![1, 8, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 2
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128, .i32⟩
  | .local _ .vmem, ⟨0, _⟩ => ⟨S128x1, .i32⟩
  | .local _ .vmem, ⟨1, _⟩ => ⟨S2x8x100000, .f32⟩
  | _, _ => ⟨S128x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c16_i32 : BitVec 32 := 16#32
  let v10 : BitVec 32 := Scalar.addi c0_i32_5 c16_i32
  let c1_i32 : BitVec 32 := 1#32
  ⟨c0_i32_5, v10, c1_i32⟩
def k0_cond1 (k0_t1 : Fin k0_t1_loop.trips) : BitVec 1 :=
  let c0_i32_5 : BitVec 32 := 0#32
  let c1_i32 : BitVec 32 := 1#32
  let arg4 : BitVec 32 := Scf.iv c0_i32_5 c1_i32 k0_t1
  let c1_i32_7 : BitVec 32 := 1#32
  let v12 : BitVec 32 := Scalar.addi arg4 c1_i32_7
  let c16_i32_8 : BitVec 32 := 16#32
  let v13 : BitVec 1 := Scalar.cmpi .slt v12 c16_i32_8
  let v14 : BitVec 32 := Scalar.extui v13
  let c0_i32_9 : BitVec 32 := 0#32
  let v15 : BitVec 1 := Scalar.cmpi .ne v14 c0_i32_9
  v15

def k0_off1 (k0_t1 : Fin k0_t1_loop.trips) : Fin 1 → Nat :=
  let c1_i32_5979 : BitVec 32 := 1#32
  let c0_i32_5 : BitVec 32 := 0#32
  let c1_i32 : BitVec 32 := 1#32
  let arg4 : BitVec 32 := Scf.iv c0_i32_5 c1_i32 k0_t1
  let c2_i32 : BitVec 32 := 2#32
  let v11 : BitVec 32 := Scalar.remsi arg4 c2_i32
  let v18559 : BitVec 32 := Scalar.subi c1_i32_5979 v11
  ![v18559.toNat]
def k0_off2 (k0_t1 : Fin k0_t1_loop.trips) : Fin 3 → Nat :=
  let c1_i32_5979 : BitVec 32 := 1#32
  let c0_i32_5 : BitVec 32 := 0#32
  let c1_i32 : BitVec 32 := 1#32
  let arg4 : BitVec 32 := Scf.iv c0_i32_5 c1_i32 k0_t1
  let c2_i32 : BitVec 32 := 2#32
  let v11 : BitVec 32 := Scalar.remsi arg4 c2_i32
  let v18559 : BitVec 32 := Scalar.subi c1_i32_5979 v11
  let c0_i32_5981 : BitVec 32 := 0#32
  let c0_i32_5982 : BitVec 32 := 0#32
  ![v18559.toNat, 0, 0]
def k0_off3 (k0_t1 : Fin k0_t1_loop.trips) : Fin 2 → Nat :=
  let c0_i32_5 : BitVec 32 := 0#32
  let c1_i32 : BitVec 32 := 1#32
  let arg4 : BitVec 32 := Scf.iv c0_i32_5 c1_i32 k0_t1
  let c1_i32_7 : BitVec 32 := 1#32
  let v12 : BitVec 32 := Scalar.addi arg4 c1_i32_7
  let c8_i32_5980 : BitVec 32 := 8#32
  let v18560 : BitVec 32 := Scalar.muli v12 c8_i32_5980
  let c0_i32_5983 : BitVec 32 := 0#32
  ![v18560.toNat, 0]
def k0_off4 (k0_t1 : Fin k0_t1_loop.trips) : Fin 1 → Nat :=
  let c0_i32_5 : BitVec 32 := 0#32
  let c1_i32 : BitVec 32 := 1#32
  let arg4 : BitVec 32 := Scf.iv c0_i32_5 c1_i32 k0_t1
  let c2_i32 : BitVec 32 := 2#32
  let v11 : BitVec 32 := Scalar.remsi arg4 c2_i32
  ![v11.toNat]
def k0_off5 (k0_t1 : Fin k0_t1_loop.trips) : Fin 3 → Nat :=
  let c0_i32_5 : BitVec 32 := 0#32
  let c1_i32 : BitVec 32 := 1#32
  let arg4 : BitVec 32 := Scf.iv c0_i32_5 c1_i32 k0_t1
  let c2_i32 : BitVec 32 := 2#32
  let v11 : BitVec 32 := Scalar.remsi arg4 c2_i32
  let c0_i32_10 : BitVec 32 := 0#32
  let c0_i32_11 : BitVec 32 := 0#32
  ![v11.toNat, 0, 0]
def k0_off6 (k0_t1 : Fin k0_t1_loop.trips) : Fin 2 → Nat :=
  let c0_i32_5 : BitVec 32 := 0#32
  let c1_i32 : BitVec 32 := 1#32
  let arg4 : BitVec 32 := Scf.iv c0_i32_5 c1_i32 k0_t1
  let c8_i32 : BitVec 32 := 8#32
  let v16 : BitVec 32 := Scalar.muli arg4 c8_i32
  let c0_i32_12 : BitVec 32 := 0#32
  ![v16.toNat, 0]
def k0_off7 (k0_t1 : Fin k0_t1_loop.trips) : Fin 2 → Nat :=
  let c0_i32_5 : BitVec 32 := 0#32
  let c1_i32 : BitVec 32 := 1#32
  let arg4 : BitVec 32 := Scf.iv c0_i32_5 c1_i32 k0_t1
  let c8_i32_5977 : BitVec 32 := 8#32
  let v18556 : BitVec 32 := Scalar.muli arg4 c8_i32_5977
  let v18557 : Index := Scalar.indexCast v18556
  let c0_5978 : Index := 0#32
  ![v18557.toNat, 0]
abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩

abbrev nBuf : Space → Nat
  | .hbm => 525
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x100000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .f32⟩
  | 121 => ⟨S_, .f32⟩
  | 122 => ⟨S_, .f32⟩
  | 123 => ⟨S_, .f32⟩
  | 124 => ⟨S1x1, .f32⟩
  | 125 => ⟨S1x1, .f32⟩
  | 126 => ⟨S1, .i32⟩
  | 127 => ⟨S_, .i32⟩
  | _ => ⟨S128x100000, .f32⟩

abbrev hbmTy0_2 (i : Nat) : BufTy := match i % 128 with
  | 0 => ⟨S1, .i32⟩
  | 1 => ⟨S_, .i32⟩
  | 2 => ⟨S128x100000, .i64⟩
  | 3 => ⟨S128x100000, .i64⟩
  | 4 => ⟨S_, .i64⟩
  | 5 => ⟨S128x100000, .i64⟩
  | 6 => ⟨S128x100000, .i64⟩
  | 7 => ⟨S_, .i64⟩
  | 8 => ⟨S128x100000, .i64⟩
  | 9 => ⟨S128x100000, .i64⟩
  | 10 => ⟨S128x100000, .i64⟩
  | 11 => ⟨S_, .i64⟩
  | 12 => ⟨S128x100000, .i64⟩
  | 13 => ⟨S128x100000, .i64⟩
  | 14 => ⟨S128x100000, .i32⟩
  | 15 => ⟨S128x100000, .i32⟩
  | 16 => ⟨S_, .i32⟩
  | 17 => ⟨S_, .i32⟩
  | 18 => ⟨S_, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_3 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .f32⟩
  | 118 => ⟨S_, .f32⟩
  | 119 => ⟨S128x100000, .f32⟩
  | 120 => ⟨S128x100000, .f32⟩
  | 121 => ⟨S1x1, .f32⟩
  | 122 => ⟨S128x100000, .f32⟩
  | 123 => ⟨S128x100000, .f32⟩
  | 124 => ⟨S128x100000, .f32⟩
  | 125 => ⟨S128x100000, .f32⟩
  | 126 => ⟨S128x100000, .f32⟩
  | 127 => ⟨S128x100000, .f32⟩
  | _ => ⟨S128x100000, .f32⟩

abbrev hbmTy0_4 (i : Nat) : BufTy := match i % 128 with
  | 0 => ⟨S_, .f32⟩
  | 1 => ⟨S128x100000, .f32⟩
  | 2 => ⟨S128x100000, .f32⟩
  | 3 => ⟨S128x100000, .f32⟩
  | 4 => ⟨S128x100000, .f32⟩
  | 5 => ⟨S128x100000, .f32⟩
  | 6 => ⟨S128x100000, .f32⟩
  | 7 => ⟨S128x100000, .f32⟩
  | 8 => ⟨S128x100000, .i32⟩
  | 9 => ⟨S_, .f32⟩
  | 10 => ⟨S_, .i32⟩
  | 11 => ⟨S128, .f32⟩
  | 12 => ⟨S128, .i32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_cst : Ref sig .tc := ⟨.hbm, 248, rfl⟩
abbrev main_cst_3 : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_v9 : Ref sig .tc := ⟨.hbm, 259, rfl⟩
abbrev main_call1_c : Ref sig .tc := ⟨.hbm, 260, rfl⟩
abbrev main_call1_v10 : Ref sig .tc := ⟨.hbm, 261, rfl⟩
abbrev main_call1_v11 : Ref sig .tc := ⟨.hbm, 262, rfl⟩
abbrev main_call1_c_0 : Ref sig .tc := ⟨.hbm, 263, rfl⟩
abbrev main_call1_v12 : Ref sig .tc := ⟨.hbm, 264, rfl⟩
abbrev main_call1_v13 : Ref sig .tc := ⟨.hbm, 265, rfl⟩
abbrev main_call1_v14 : Ref sig .tc := ⟨.hbm, 266, rfl⟩
abbrev main_call1_c_1 : Ref sig .tc := ⟨.hbm, 267, rfl⟩
abbrev main_call1_v15 : Ref sig .tc := ⟨.hbm, 268, rfl⟩
abbrev main_call1_v16 : Ref sig .tc := ⟨.hbm, 269, rfl⟩
abbrev main_call1_v17 : Ref sig .tc := ⟨.hbm, 270, rfl⟩
abbrev main_call1_v18 : Ref sig .tc := ⟨.hbm, 271, rfl⟩
abbrev main_call1_call0_v0 : Ref sig .tc := ⟨.hbm, 272, rfl⟩
abbrev main_call1_call0_c : Ref sig .tc := ⟨.hbm, 273, rfl⟩
abbrev main_call1_call0_v1 : Ref sig .tc := ⟨.hbm, 274, rfl⟩
abbrev main_call1_call0_v2 : Ref sig .tc := ⟨.hbm, 275, rfl⟩
abbrev main_call1_call0_v3 : Ref sig .tc := ⟨.hbm, 276, rfl⟩
abbrev main_call1_call0_v4 : Ref sig .tc := ⟨.hbm, 277, rfl⟩
abbrev main_call1_call0_v5 : Ref sig .tc := ⟨.hbm, 278, rfl⟩
abbrev main_call1_call0_v6 : Ref sig .tc := ⟨.hbm, 279, rfl⟩
abbrev main_call1_call0_c_0 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_c_1 : Ref sig .tc := ⟨.hbm, 283, rfl⟩
abbrev main_call1_call0_v9 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_v12 : Ref sig .tc := ⟨.hbm, 287, rfl⟩
abbrev main_call1_call0_v13 : Ref sig .tc := ⟨.hbm, 288, rfl⟩
abbrev main_call1_call0_c_2 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_c_3 : Ref sig .tc := ⟨.hbm, 292, rfl⟩
abbrev main_call1_call0_v16 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_v19 : Ref sig .tc := ⟨.hbm, 296, rfl⟩
abbrev main_call1_call0_v20 : Ref sig .tc := ⟨.hbm, 297, rfl⟩
abbrev main_call1_call0_c_4 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_c_5 : Ref sig .tc := ⟨.hbm, 301, rfl⟩
abbrev main_call1_call0_v23 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_6 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_c_7 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_v33 : Ref sig .tc := ⟨.hbm, 314, rfl⟩
abbrev main_call1_call0_v34 : Ref sig .tc := ⟨.hbm, 315, rfl⟩
abbrev main_call1_call0_v35 : Ref sig .tc := ⟨.hbm, 316, rfl⟩
abbrev main_call1_call0_v36 : Ref sig .tc := ⟨.hbm, 317, rfl⟩
abbrev main_call1_call0_v37 : Ref sig .tc := ⟨.hbm, 318, rfl⟩
abbrev main_call1_call0_c_8 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_9 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_c_10 : Ref sig .tc := ⟨.hbm, 326, rfl⟩
abbrev main_call1_call0_v43 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_v46 : Ref sig .tc := ⟨.hbm, 330, rfl⟩
abbrev main_call1_call0_v47 : Ref sig .tc := ⟨.hbm, 331, rfl⟩
abbrev main_call1_call0_c_11 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_c_12 : Ref sig .tc := ⟨.hbm, 335, rfl⟩
abbrev main_call1_call0_v50 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_v53 : Ref sig .tc := ⟨.hbm, 339, rfl⟩
abbrev main_call1_call0_v54 : Ref sig .tc := ⟨.hbm, 340, rfl⟩
abbrev main_call1_call0_c_13 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_c_14 : Ref sig .tc := ⟨.hbm, 344, rfl⟩
abbrev main_call1_call0_v57 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_v60 : Ref sig .tc := ⟨.hbm, 348, rfl⟩
abbrev main_call1_call0_v61 : Ref sig .tc := ⟨.hbm, 349, rfl⟩
abbrev main_call1_call0_c_15 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_c_16 : Ref sig .tc := ⟨.hbm, 353, rfl⟩
abbrev main_call1_call0_v64 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_v67 : Ref sig .tc := ⟨.hbm, 357, rfl⟩
abbrev main_call1_call0_v68 : Ref sig .tc := ⟨.hbm, 358, rfl⟩
abbrev main_call1_call0_v69 : Ref sig .tc := ⟨.hbm, 359, rfl⟩
abbrev main_call1_call0_v70 : Ref sig .tc := ⟨.hbm, 360, rfl⟩
abbrev main_call1_call0_v71 : Ref sig .tc := ⟨.hbm, 361, rfl⟩
abbrev main_call1_call0_c_17 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_18 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_c_19 : Ref sig .tc := ⟨.hbm, 369, rfl⟩
abbrev main_call1_call0_v77 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_v80 : Ref sig .tc := ⟨.hbm, 373, rfl⟩
abbrev main_call1_call0_v81 : Ref sig .tc := ⟨.hbm, 374, rfl⟩
abbrev main_call1_call0_c_20 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_c_21 : Ref sig .tc := ⟨.hbm, 378, rfl⟩
abbrev main_call1_call0_v84 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_v87 : Ref sig .tc := ⟨.hbm, 382, rfl⟩
abbrev main_call1_call0_v88 : Ref sig .tc := ⟨.hbm, 383, rfl⟩
abbrev main_call1_call0_c_22 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_c_23 : Ref sig .tc := ⟨.hbm, 387, rfl⟩
abbrev main_call1_call0_v91 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_v94 : Ref sig .tc := ⟨.hbm, 391, rfl⟩
abbrev main_call1_call0_v95 : Ref sig .tc := ⟨.hbm, 392, rfl⟩
abbrev main_call1_call0_c_24 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_c_25 : Ref sig .tc := ⟨.hbm, 396, rfl⟩
abbrev main_call1_call0_v98 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_v101 : Ref sig .tc := ⟨.hbm, 400, rfl⟩
abbrev main_call1_call0_v102 : Ref sig .tc := ⟨.hbm, 401, rfl⟩
abbrev main_call1_call0_v103 : Ref sig .tc := ⟨.hbm, 402, rfl⟩
abbrev main_call1_call0_v104 : Ref sig .tc := ⟨.hbm, 403, rfl⟩
abbrev main_call1_call0_v105 : Ref sig .tc := ⟨.hbm, 404, rfl⟩
abbrev main_call1_call0_c_26 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_27 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_c_28 : Ref sig .tc := ⟨.hbm, 412, rfl⟩
abbrev main_call1_call0_v111 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_v114 : Ref sig .tc := ⟨.hbm, 416, rfl⟩
abbrev main_call1_call0_v115 : Ref sig .tc := ⟨.hbm, 417, rfl⟩
abbrev main_call1_call0_c_29 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_c_30 : Ref sig .tc := ⟨.hbm, 421, rfl⟩
abbrev main_call1_call0_v118 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_v121 : Ref sig .tc := ⟨.hbm, 425, rfl⟩
abbrev main_call1_call0_v122 : Ref sig .tc := ⟨.hbm, 426, rfl⟩
abbrev main_call1_call0_c_31 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_c_32 : Ref sig .tc := ⟨.hbm, 430, rfl⟩
abbrev main_call1_call0_v125 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_v128 : Ref sig .tc := ⟨.hbm, 434, rfl⟩
abbrev main_call1_call0_v129 : Ref sig .tc := ⟨.hbm, 435, rfl⟩
abbrev main_call1_call0_c_33 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_c_34 : Ref sig .tc := ⟨.hbm, 439, rfl⟩
abbrev main_call1_call0_v132 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_v135 : Ref sig .tc := ⟨.hbm, 443, rfl⟩
abbrev main_call1_call0_v136 : Ref sig .tc := ⟨.hbm, 444, rfl⟩
abbrev main_call1_call0_v137 : Ref sig .tc := ⟨.hbm, 445, rfl⟩
abbrev main_call1_call0_v138 : Ref sig .tc := ⟨.hbm, 446, rfl⟩
abbrev main_call1_call0_v139 : Ref sig .tc := ⟨.hbm, 447, rfl⟩
abbrev main_call1_call0_c_35 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_36 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_c_37 : Ref sig .tc := ⟨.hbm, 455, rfl⟩
abbrev main_call1_call0_v145 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_v148 : Ref sig .tc := ⟨.hbm, 459, rfl⟩
abbrev main_call1_call0_v149 : Ref sig .tc := ⟨.hbm, 460, rfl⟩
abbrev main_call1_call0_c_38 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_c_39 : Ref sig .tc := ⟨.hbm, 464, rfl⟩
abbrev main_call1_call0_v152 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_v155 : Ref sig .tc := ⟨.hbm, 468, rfl⟩
abbrev main_call1_call0_v156 : Ref sig .tc := ⟨.hbm, 469, rfl⟩
abbrev main_call1_call0_c_40 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_c_41 : Ref sig .tc := ⟨.hbm, 473, rfl⟩
abbrev main_call1_call0_v159 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_v162 : Ref sig .tc := ⟨.hbm, 477, rfl⟩
abbrev main_call1_call0_v163 : Ref sig .tc := ⟨.hbm, 478, rfl⟩
abbrev main_call1_call0_c_42 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_c_43 : Ref sig .tc := ⟨.hbm, 482, rfl⟩
abbrev main_call1_call0_v166 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_v169 : Ref sig .tc := ⟨.hbm, 486, rfl⟩
abbrev main_call1_call0_v170 : Ref sig .tc := ⟨.hbm, 487, rfl⟩
abbrev main_call1_v19_0 : Ref sig .tc := ⟨.hbm, 488, rfl⟩
abbrev main_call1_call0_v172 : Ref sig .tc := ⟨.hbm, 489, rfl⟩
abbrev main_call1_call0_v173 : Ref sig .tc := ⟨.hbm, 490, rfl⟩
abbrev main_call1_call0_c_44 : Ref sig .tc := ⟨.hbm, 491, rfl⟩
abbrev main_call1_call0_v174 : Ref sig .tc := ⟨.hbm, 492, rfl⟩
abbrev main_call1_v19_1 : Ref sig .tc := ⟨.hbm, 493, rfl⟩
abbrev main_call1_v20 : Ref sig .tc := ⟨.hbm, 494, rfl⟩
abbrev main_call1_c_2 : Ref sig .tc := ⟨.hbm, 495, rfl⟩
abbrev main_call1_v21 : Ref sig .tc := ⟨.hbm, 496, rfl⟩
abbrev main_call1_v22 : Ref sig .tc := ⟨.hbm, 497, rfl⟩
abbrev main_call1_c_3 : Ref sig .tc := ⟨.hbm, 498, rfl⟩
abbrev main_call1_v23 : Ref sig .tc := ⟨.hbm, 499, rfl⟩
abbrev main_call1_v24 : Ref sig .tc := ⟨.hbm, 500, rfl⟩
abbrev main_call1_v25 : Ref sig .tc := ⟨.hbm, 501, rfl⟩
abbrev main_call1_cst : Ref sig .tc := ⟨.hbm, 502, rfl⟩
abbrev main_call1_v26 : Ref sig .tc := ⟨.hbm, 503, rfl⟩
abbrev main_call1_v27 : Ref sig .tc := ⟨.hbm, 504, rfl⟩
abbrev main_call1_v28 : Ref sig .tc := ⟨.hbm, 505, rfl⟩
abbrev main_call1_v29 : Ref sig .tc := ⟨.hbm, 506, rfl⟩
abbrev main_call1_v30 : Ref sig .tc := ⟨.hbm, 507, rfl⟩
abbrev main_call1_v31 : Ref sig .tc := ⟨.hbm, 508, rfl⟩
abbrev main_call1_v32 : Ref sig .tc := ⟨.hbm, 509, rfl⟩
abbrev main_call1_v33 : Ref sig .tc := ⟨.hbm, 510, rfl⟩
abbrev main_v8 : Ref sig .tc := ⟨.hbm, 511, rfl⟩
abbrev main_cst_4 : Ref sig .tc := ⟨.hbm, 512, rfl⟩
abbrev main_v9 : Ref sig .tc := ⟨.hbm, 513, rfl⟩
abbrev main_v10 : Ref sig .tc := ⟨.hbm, 514, rfl⟩
abbrev main_v11 : Ref sig .tc := ⟨.hbm, 515, rfl⟩
abbrev main_v12 : Ref sig .tc := ⟨.hbm, 516, rfl⟩
abbrev main_v13 : Ref sig .tc := ⟨.hbm, 517, rfl⟩
abbrev main_v14 : Ref sig .tc := ⟨.hbm, 518, rfl⟩
abbrev main_v15 : Ref sig .tc := ⟨.hbm, 519, rfl⟩
abbrev main_call2_v0 : Ref sig .tc := ⟨.hbm, 520, rfl⟩
abbrev main_call2_cst : Ref sig .tc := ⟨.hbm, 521, rfl⟩
abbrev main_call2_c : Ref sig .tc := ⟨.hbm, 522, rfl⟩
abbrev main_call2_v1_0 : Ref sig .tc := ⟨.hbm, 523, rfl⟩
abbrev main_v16 : Ref sig .tc := ⟨.hbm, 524, rfl⟩

abbrev nD : Nat := 1
abbrev τ : Topo := Topo.v7x

variable {F : FTy → Type} [FloatOps F]
-- ==== Proof.Mix.lean ====
/-
  The counter generator the kernel runs on every lane, written once: twenty rounds of threefry2x32 over the key's
  three words, then the word turned into a float in [0, 1), clamped, and mapped to Gumbel noise. Every function here
  is of whole vectors, at any shape, in the order and with the operands the kernel has.
-/
module

public import Idealize.ShloMosaic.PureOps
public import Idealize.ShloMosaic.Lib.Pointwise.ElementwiseCore

@[expose] public section

noncomputable section

namespace Cert.Proof.Mix

open Idealize.ShloMosaic

variable {F : FTy → Type} [FloatOps F] {s : Shape}

/-- Rotate every word left by `l` (`r = 32 - l`). -/
def rot (l r : BitVec 32) (x : IVec s 32) : IVec s 32 := ori (shli x (broadcast s l)) (shrui x (broadcast s r))
/-- The first word of the state after one round. -/
def fst (a b : IVec s 32) : IVec s 32 := addi a b
/-- The second word, over the new first word `a`. -/
def snd (l r : BitVec 32) (a b : IVec s 32) : IVec s 32 := xori (rot l r b) a
/-- One round. -/
def round (l r : BitVec 32) (x : IVec s 32 × IVec s 32) : IVec s 32 × IVec s 32 :=
  (addi x.1 x.2, snd l r (addi x.1 x.2) x.2)
/-- A key injection. -/
def inject (k0 k1 : BitVec 32) (x : IVec s 32 × IVec s 32) : IVec s 32 × IVec s 32 :=
  (addi x.1 (broadcast s k0), addi x.2 (broadcast s k1))

/-- The state after the first round: the first word enters as the key's, so the sum is the counter's plus the key's. -/
def mix1 (n : IVec s 32) : IVec s 32 × IVec s 32 :=
  (addi n (broadcast s 928981903#32), snd 13#32 19#32 (addi n (broadcast s 928981903#32)) n)
/-- The state after four rounds; -/
def mix4 (n : IVec s 32) : IVec s 32 × IVec s 32 := round 6#32 26#32 (round 26#32 6#32 (round 15#32 17#32 (mix1 n)))
/-- after seven; -/
def mix7 (n : IVec s 32) : IVec s 32 × IVec s 32 :=
  round 16#32 16#32 (round 29#32 3#32 (round 17#32 15#32 (inject 3453687069#32 3780455753#32 (mix4 n))))
/-- after eight; -/
def mix8 (n : IVec s 32) : IVec s 32 × IVec s 32 := round 24#32 8#32 (mix7 n)
/-- after ten; -/
def mix10 (n : IVec s 32) : IVec s 32 × IVec s 32 :=
  round 15#32 17#32 (round 13#32 19#32 (inject 3780455752#32 928981905#32 (mix8 n)))
/-- after fourteen; -/
def mix14 (n : IVec s 32) : IVec s 32 × IVec s 32 :=
  round 29#32 3#32 (round 17#32 15#32 (inject 928981903#32 3453687072#32 (round 6#32 26#32 (round 26#32 6#32 (mix10 n)))))
/-- after seventeen; -/
def mix17 (n : IVec s 32) : IVec s 32 × IVec s 32 :=
  round 13#32 19#32 (inject 3453687069#32 3780455756#32 (round 24#32 8#32 (round 16#32 16#32 (mix14 n))))
/-- and after all twenty. -/
def mix20 (n : IVec s 32) : IVec s 32 × IVec s 32 :=
  inject 3780455752#32 928981908#32 (round 6#32 26#32 (round 26#32 6#32 (round 15#32 17#32 (mix17 n))))

/-- The random word of counter (plus key word) `n`. -/
def word (n : IVec s 32) : IVec s 32 := xori (mix20 n).1 (mix20 n).2
/-- The word as a float in [0, 1), clamped at the least normal float. -/
def unif (n : IVec s 32) : FVec F s .f32 :=
  maximumf (subf (bitcastToFloat .f32 (ori (shrui (word n) (broadcast s 9#32)) (broadcast s 1065353216#32)))
    (broadcast s (Scalar.ofBits .f32 0x3F800000#32))) (broadcast s (Scalar.ofBits .f32 0x00800000#32))
/-- The Gumbel noise of that counter. -/
def noise (n : IVec s 32) : FVec F s .f32 :=
  subf (broadcast s (Scalar.ofBits .f32 0x00000000#32))
    (log (subf (broadcast s (Scalar.ofBits .f32 0x00000000#32)) (log (unif n))))

/-- One chunk of the row scan: the running best value and index of every lane, updated by the chunk's logits `x`
    at counters `n` and columns `col`. -/
def upd (n col : IVec s 32) (st : FVec F s .f32 × IVec s 32) (x : FVec F s .f32) : FVec F s .f32 × IVec s 32 :=
  (maximumf st.1 (addf x (noise n)), select (cmpf .ogt (addf x (noise n)) st.1) col st.2)

end Cert.Proof.Mix
-- ==== Proof.Trip.lean ====
module

public import proofs.«01_k».proof.Proof.Mix
public import proofs.«01_k».proof.Proof.Gen.KernelIdeal.Skeleton

/-! # One trip of the kernel's loop

A trip handles eight rows of logits. It goes through them in 98 chunks of 1024 columns (the last is moved back to end with the row), keeps on
every lane the greatest score and its column (`scanOf`), and writes, per row, the least column among the lanes that hold the row's
greatest score (`pick`). The kernel's body, unrolled over the chunks, is such a trip (`body_eq`). -/

@[expose] public section

noncomputable section

namespace Cert.KernelIdeal.Gen

open Idealize.ShloMosaic Idealize.SL.Sem
open Cert.Proof.Mix

variable {F : FTy → Type} [FloatOps F]

abbrev Z : Shape := S8x1024
/-- Column where chunk `j` starts; the last is moved back to end with the row. -/
def start (j : ℕ) : ℕ := min (1024 * j) 98976
theorem start_inb (j : ℕ) : ∀ a, (![0, start j] : Fin 2 → Nat) a + S8x1024.size a ≤ S8x100000.size a := by
  intro a; fin_cases a
  · show 0 + 8 ≤ 8; omega
  · show min (1024 * j) 98976 + 1024 ≤ 100000; omega

section
variable (arg0 : Memref sig .tc .hbm S128x100000 .f32) (harg0 : arg0.IsWhole) (arg1 : Memref sig .tc .vmem S128x1 .i32) (harg1 : arg1.IsWhole)
  (arg2 : Memref sig .tc .vmem S2x8x100000 .f32) (harg2 : arg2.IsWhole) (arg3 : DmaSems sig S2)

/-- The slot trip `t` reads. -/
abbrev slotT (t : Fin k0_t1_loop.trips) : Memref sig .tc .vmem S8x100000 .f32 :=
  (arg2.slice (Rect.unit (s := S2x8x100000) (k0_off5 t) S1x8x100000.size (k0_off5_inb t)) (fun _ => rfl)).squeeze S8x100000 squeezes_S1x8x100000_S8x100000

/-- Counters of chunk `j`. -/
def cnt (v4 : IVec Z 32) (v23 : BitVec 32) (j : ℕ) : IVec Z 32 := addi v4 (broadcast Z (Scalar.addi v23 (BitVec.ofNat 32 (start j))))
def col (v3 : IVec Z 32) (j : ℕ) : IVec Z 32 := addi v3 (broadcast Z (BitVec.ofNat 32 (start j)))

/-- Chunks `j`, …, `j + n - 1` of a trip's scan of the slab `M`. -/
def scanOf (M : Memref sig .tc .vmem S8x100000 .f32) (v3 v4 : IVec Z 32) (v23 : BitVec 32) (j : ℕ) :
    ℕ → FVec F Z .f32 × IVec Z 32 → Prog (TpuEff nD τ sig (Elt F) Λ₀ .tc) (FVec F Z .f32 × IVec Z 32)
  | 0, st => pure st
  | n + 1, st => do
    let x : Vec F Z .f32 ← Prog.lift (.load M (Rect.unit (s := S8x100000) ![0, start j] Z.size (start_inb j)).toLoadRect (View.loadsAt_vmem h_S8x1024))
    scanOf M v3 v4 v23 (j + 1) n (upd (cnt v4 v23 j) (col v3 j) st x)
/-- The same of the slot trip `t` reads. -/
abbrev scan (v3 v4 : IVec Z 32) (v23 : BitVec 32) (t : Fin k0_t1_loop.trips) (j n : ℕ) (st : FVec F Z .f32 × IVec Z 32) :=
  scanOf (slotT arg2 t) v3 v4 v23 j n st
end

theorem scanOf_add (M : Memref sig .tc .vmem S8x100000 .f32) (v3 v4 : IVec Z 32) (v23 : BitVec 32) (n m : ℕ) :
    ∀ (j : ℕ) (st : FVec F Z .f32 × IVec Z 32), (scanOf M v3 v4 v23 j n st >>= fun st => scanOf M v3 v4 v23 (j + n) m st) = scanOf M v3 v4 v23 j (n + m) st := by
  induction n with
  | zero => intro j st; rw [Nat.zero_add, Nat.add_zero]; rfl
  | succ n ih =>
    intro j st
    rw [show n + 1 + m = (n + m) + 1 from by omega]
    simp only [scanOf, bind_assoc]
    congr 1; funext x
    rw [← ih (j + 1), show j + (n + 1) = j + 1 + n from by omega]

/-- Trip `t`'s start: the next slab is fetched into the other slot if there is one, and this trip's is waited for. -/
def fetch (arg0 : Memref sig .tc .hbm S128x100000 .f32) (arg2 : Memref sig .tc .vmem S2x8x100000 .f32) (arg3 : DmaSems sig S2)
    (t : Fin k0_t1_loop.trips) : Prog (TpuEff nD τ sig (Elt F) Λ₀ .tc) PUnit := do
  if h : k0_cond1 t = 1#1 then do
    Prog.lift (.enqueueDma ((arg0.slice (Rect.unit (s := S128x100000) (k0_off3 t) S8x100000.size (k0_off3_inb t h)) (fun _ => rfl)))
      (.here ((arg2.slice (Rect.unit (s := S2x8x100000) (k0_off2 t) S1x8x100000.size (k0_off2_inb t h)) (fun _ => rfl)).squeeze S8x100000 squeezes_S1x8x100000_S8x100000))
      (.dma (((arg3.slice (Rect.unit (s := S2) (k0_off1 t) S1.size (k0_off1_inb t h))).squeeze S_ squeezes_S1_S_)).sem)
      (View.wordExact_bits rfl) ((View.wordExact_bits rfl).reshape _ _) ⟨Or.inl rfl, trivial⟩)
    pure ⟨⟩
  else do
    pure ⟨⟩
  Prog.lift (.waitDma2 ((arg3.slice (Rect.unit (s := S2) (k0_off4 t) S1.size (k0_off4_inb t))).squeeze S_ squeezes_S1_S_).sem
    (arg0.slice (Rect.unit (s := S128x100000) (k0_off6 t) S8x100000.size (k0_off6_inb t)) (fun _ => rfl)) (slotT arg2 t)
    (View.wordExact_bits rfl) ((View.wordExact_bits rfl).reshape _ _))

abbrev arg4T (t : Fin k0_t1_loop.trips) : BitVec 32 := Scf.iv 0#32 1#32 t
abbrev v23T (t : Fin k0_t1_loop.trips) : BitVec 32 := Scalar.addi (Scalar.muli (arg4T t) 800000#32) 3453687069#32
abbrev init : FVec F Z .f32 × IVec Z 32 := (broadcast Z (Scalar.ofBits .f32 0xFF800000#32), broadcast Z 0#32)

/-- What a trip stores: per row, the least column at which the running maximum is the row's. -/
abbrev pick (st : FVec F Z .f32 × IVec Z 32) : IVec S8x1 32 :=
  k0_pay2 st.1 st.2 (multiReduction .maximumf [1] S8 st.1 0xFF800000#32 reduces_S8x1024_S8 (.inl rfl) rfl)

/-- The trip's store. -/
def finish (arg1 : Memref sig .tc .vmem S128x1 .i32) (t : Fin k0_t1_loop.trips) (st : FVec F Z .f32 × IVec Z 32) :
    Prog (TpuEff nD τ sig (Elt F) Λ₀ .tc) Unit := do
  let _x : Vec F S8x1 .i32 ← Prog.lift (.load arg1 (Rect.unit (s := S128x1) (k0_off7 t) S8x1.size (k0_off7_inb t)).toLoadRect (View.loadsAt_vmem h_S8x1))
  Prog.lift (.store arg1 (Rect.unit (s := S128x1) (k0_off7 t) S8x1.size (k0_off7_inb t)) (pick st) Finset.univ (View.stores_vmem_bits_univ h_S8x1 rfl) (.inl rfl))
  pure ⟨⟩

section Parts

attribute [local irreducible] addi shli shrui ori xori broadcast subf maximumf log bitcastToFloat addf cmpf select

variable (arg0 : Memref sig .tc .hbm S128x100000 .f32) (harg0 : arg0.IsWhole) (arg1 : Memref sig .tc .vmem S128x1 .i32) (harg1 : arg1.IsWhole)
  (arg2 : Memref sig .tc .vmem S2x8x100000 .f32) (harg2 : arg2.IsWhole) (arg3 : DmaSems sig S2) (v3 v4 : IVec Z 32) (t : Fin k0_t1_loop.trips)

set_option maxRecDepth 65536 in
theorem part1_eq : k0_part1 (F := F) arg0 harg0 arg1 harg1 arg2 harg2 arg3 v4 0#32 1#32 t =
    fetch arg0 arg2 arg3 t >>= fun _ => pure ⟨arg4T t, v23T t, (init (F := F)).1, (init (F := F)).2, (round 15#32 17#32 (mix1 (cnt v4 (v23T t) 0))).2,
      fst (round 15#32 17#32 (mix1 (cnt v4 (v23T t) 0))).1 (round 15#32 17#32 (mix1 (cnt v4 (v23T t) 0))).2,
      shli (round 15#32 17#32 (mix1 (cnt v4 (v23T t) 0))).2 (broadcast Z 26#32), broadcast Z 6#32⟩ := by
  by_cases h : k0_cond1 t = 1#1
  · unfold k0_part1 fetch; simp only [dif_pos h]; rfl
  · unfold k0_part1 fetch; simp only [dif_neg h]; rfl

set_option maxRecDepth 65536 in
set_option maxHeartbeats 400000 in
theorem part413_eq : k0_part413 (F := F) arg0 harg0 arg1 harg1 arg2 harg2 arg3 v3 v4 0#32 1#32 t =
    fetch arg0 arg2 arg3 t >>= fun _ => scan arg2 v3 v4 (v23T t) t 0 14 init >>= fun st =>
      pure ⟨arg4T t, v23T t, st.1, st.2, (mix4 (cnt v4 (v23T t) 14)).1, (mix4 (cnt v4 (v23T t) 14)).2⟩ := by
  unfold k0_part413
  rw [part1_eq]
  exact (Prog.bind_assoc (fetch arg0 arg2 arg3 t) _ _).trans rfl

set_option maxRecDepth 65536 in
set_option maxHeartbeats 400000 in
theorem part414_eq (v23 : BitVec 32) (st : FVec F Z .f32 × IVec Z 32) : k0_part414 (F := F) arg0 harg0 arg1 harg1 arg2 harg2 arg3 v3 v4 t v23 st.1 st.2
    (mix4 (cnt v4 v23 14)).1 (mix4 (cnt v4 v23 14)).2 =
    scan arg2 v3 v4 v23 t 14 14 st >>= fun st => pure ⟨st.1, st.2, (mix10 (cnt v4 v23 28)).2,
      fst (mix10 (cnt v4 v23 28)).1 (mix10 (cnt v4 v23 28)).2, shli (mix10 (cnt v4 v23 28)).2 (broadcast Z 26#32), broadcast Z 6#32⟩ := rfl

set_option maxRecDepth 65536 in
set_option maxHeartbeats 400000 in
theorem part415_eq (v23 : BitVec 32) (st : FVec F Z .f32 × IVec Z 32) :
    k0_part415 (F := F) arg0 harg0 arg1 harg1 arg2 harg2 arg3 v3 v4 t v23 st.1 st.2 (mix10 (cnt v4 v23 28)).2 (fst (mix10 (cnt v4 v23 28)).1 (mix10 (cnt v4 v23 28)).2) (shli (mix10 (cnt v4 v23 28)).2 (broadcast Z 26#32)) (broadcast Z 6#32) =
    scan arg2 v3 v4 v23 t 28 14 st >>= fun st => pure ⟨st.1, st.2, (mix17 (cnt v4 v23 42)).2, fst (mix17 (cnt v4 v23 42)).1 (mix17 (cnt v4 v23 42)).2, broadcast Z 15#32⟩ := rfl

set_option maxRecDepth 65536 in
set_option maxHeartbeats 400000 in
theorem part416_eq (v23 : BitVec 32) (st : FVec F Z .f32 × IVec Z 32) :
    k0_part416 (F := F) arg0 harg0 arg1 harg1 arg2 harg2 arg3 v3 v4 t v23 st.1 st.2 (mix17 (cnt v4 v23 42)).2 (fst (mix17 (cnt v4 v23 42)).1 (mix17 (cnt v4 v23 42)).2) (broadcast Z 15#32) =
    scan arg2 v3 v4 v23 t 42 15 st >>= fun st => pure ⟨st.1, st.2, cnt v4 v23 57, broadcast Z 928981903#32⟩ := rfl

set_option maxRecDepth 65536 in
set_option maxHeartbeats 400000 in
theorem part417_eq (v23 : BitVec 32) (st : FVec F Z .f32 × IVec Z 32) :
    k0_part417 (F := F) arg0 harg0 arg1 harg1 arg2 harg2 arg3 v3 v4 t v23 st.1 st.2 (cnt v4 v23 57) (broadcast Z 928981903#32) =
    scan arg2 v3 v4 v23 t 57 14 st >>= fun st => pure ⟨st.1, st.2, (mix7 (cnt v4 v23 71)).2, fst (mix7 (cnt v4 v23 71)).1 (mix7 (cnt v4 v23 71)).2, broadcast Z 24#32⟩ := rfl

set_option maxRecDepth 65536 in
set_option maxHeartbeats 400000 in
theorem part418_eq (v23 : BitVec 32) (st : FVec F Z .f32 × IVec Z 32) :
    k0_part418 (F := F) arg0 harg0 arg1 harg1 arg2 harg2 arg3 v3 v4 t v23 st.1 st.2 (mix7 (cnt v4 v23 71)).2 (fst (mix7 (cnt v4 v23 71)).1 (mix7 (cnt v4 v23 71)).2) (broadcast Z 24#32) =
    scan arg2 v3 v4 v23 t 71 14 st >>= fun st => pure ⟨st.1, st.2, (mix14 (cnt v4 v23 85)).1, (mix14 (cnt v4 v23 85)).2⟩ := rfl

set_option maxRecDepth 65536 in
set_option maxHeartbeats 400000 in
theorem part419_eq (v23 : BitVec 32) (st : FVec F Z .f32 × IVec Z 32) :
    k0_part419 (F := F) arg0 harg0 arg1 harg1 arg2 harg2 arg3 v3 v4 t v23 st.1 st.2 (mix14 (cnt v4 v23 85)).1 (mix14 (cnt v4 v23 85)).2 =
    scan arg2 v3 v4 v23 t 85 13 st >>= fun st => pure ⟨st.1, st.2, multiReduction .maximumf [1] S8 st.1 0xFF800000#32 reduces_S8x1024_S8 (.inl rfl) rfl⟩ := rfl

/-- A trip: fetch and wait, scan the 98 chunks, store the eight results. -/
theorem body_eq : k0_t1_body (F := F) arg0 harg0 arg1 harg1 arg2 harg2 arg3 v3 t () =
    fetch arg0 arg2 arg3 t >>= fun _ => scan arg2 v3 k0_pay1 (v23T t) t 0 98 init >>= finish arg1 t := by
  unfold k0_t1_body
  rw [part413_eq]
  simp only [bind_assoc, pure_bind, part414_eq, part415_eq, part416_eq, part417_eq, part418_eq, part419_eq]
  have e (j n m k i : ℕ) (hk : k = n + m) (hi : i = j + n) (st : FVec F Z .f32 × IVec Z 32) : scan arg2 v3 k0_pay1 (v23T t) t j k st =
      scan arg2 v3 k0_pay1 (v23T t) t j n st >>= fun st => scan arg2 v3 k0_pay1 (v23T t) t i m st := by
    subst hk hi; exact (scanOf_add _ _ _ _ _ _ _ _).symm
  simp only [e 0 14 84 98 14 rfl rfl, e 14 14 70 84 28 rfl rfl, e 28 14 56 70 42 rfl rfl, e 42 15 41 56 57 rfl rfl, e 57 14 27 41 71 rfl rfl,
    e 71 14 13 27 85 rfl rfl, bind_assoc]
  rfl

end Parts

end Cert.KernelIdeal.Gen
-- ==== Proof.Run.lean ====
module

public import proofs.«01_k».proof.Proof.Trip
public import proofs.«01_k».proof.Proof.Gen.KernelIdeal.Frame
public import proofs.«01_k».proof.Proof.Gen.KernelIdeal.Loops
public import Idealize.ShloMosaic.Lib.Affine
public import Idealize.ShloMosaic.Lib.WritesUnit
public import Idealize.ShloMosaic.Lib.VecWindow

/-! # What the kernel's body does

The two buffers of the ring are filled by copies: trip `t` starts the copy of slab `t + 1` into the other slot, waits for its own, scans it and
stores eight results. `bodyRun` takes the body from the logits to the array of all 128 results (`res`), both slots and both
semaphores handed back. -/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.Proof.Mix

variable {F : FTy → Type} [FloatOps F]

local notation "𝕄" => MT nD τ sig Unit (Elt F) ℕ (UD sig nD τ) ℕ
abbrev 𝒱₀ : Variants := Variants.none

/-! ## Names for the slabs, the slots and the slots' semaphores -/

abbrev aM : Memref sig .tc .hbm S128x100000 .f32 := Memref.whole main_arg0
abbrev bufM : Memref sig .tc .vmem S2x8x100000 .f32 := Memref.whole cc0_scratch0

abbrev slabOff (b : Fin 16) : Fin 2 → Nat := ![8 * b.val, 0]
theorem slabOff_inb (b : Fin 16) : ∀ a, slabOff b a + S8x100000.size a ≤ S128x100000.size a := by
  have := b.isLt; intro a; fin_cases a
  · show 8 * b.val + 8 ≤ 128; omega
  · show 0 + 100000 ≤ 100000; omega
abbrev slotOff (s : Fin 2) : Fin 3 → Nat := ![s.val, 0, 0]
theorem slotOff_inb (s : Fin 2) : ∀ a, slotOff s a + S1x8x100000.size a ≤ S2x8x100000.size a := by
  have := s.isLt; intro a; fin_cases a
  · show s.val + 1 ≤ 2; omega
  · show 0 + 8 ≤ 8; omega
  · show 0 + 100000 ≤ 100000; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Slab `b`: rows `8 b`, …, `8 b + 7` of the logits. -/
def slab (b : Fin 16) : Memref sig .tc .hbm S8x100000 .f32 :=
  aM.slice (Rect.unit (s := S128x100000) (slabOff b) S8x100000.size (slabOff_inb b)) (fun _ => rfl)
/-- Slot `s` of the scratch buffer. -/
def rslot (s : Fin 2) : Memref sig .tc .vmem S8x100000 .f32 :=
  (bufM.slice (Rect.unit (s := S2x8x100000) (slotOff s) S1x8x100000.size (slotOff_inb s)) (fun _ => rfl)).squeeze S8x100000 squeezes_S1x8x100000_S8x100000
/-- Slot `s`'s semaphore. -/
def csm (s : Fin 2) : DmaSems sig S_ := (cc0_scratch1.slice (Rect.unit (s := S2) (semOff s) S1.size (semOff_inb s))).squeeze S_ squeezes_S1_S_

instance (s : Fin 2) : ClosedOff (slotOff s) := ⟨slotOff s, rfl⟩
instance (b : Fin 16) : ClosedOff (slabOff b) := ⟨slabOff b, rfl⟩

/-! ## The trips' offsets in closed form -/

theorem trips_eq : k0_t1_loop.trips = 16 := by decide
theorem cond_iff : ∀ t : Fin k0_t1_loop.trips, k0_cond1 t = 1#1 ↔ t.val + 1 < 16 := by decide +kernel
theorem off1_eq : ∀ t : Fin k0_t1_loop.trips, k0_off1 t = semOff (Ring.sl 2 (t.val + 1)) := by decide +kernel
theorem off2_eq : ∀ t : Fin k0_t1_loop.trips, k0_off2 t = slotOff (Ring.sl 2 (t.val + 1)) := by decide +kernel
theorem off3_eq : ∀ t : Fin k0_t1_loop.trips, t.val + 1 < 16 → k0_off3 t = slabOff (Ring.bk 16 (t.val + 1)) := by decide +kernel
theorem off4_eq : ∀ t : Fin k0_t1_loop.trips, k0_off4 t = semOff (Ring.sl 2 t.val) := by decide +kernel
theorem off5_eq : ∀ t : Fin k0_t1_loop.trips, k0_off5 t = slotOff (Ring.sl 2 t.val) := by decide +kernel
theorem off6_eq : ∀ t : Fin k0_t1_loop.trips, k0_off6 t = slabOff (Ring.bk 16 t.val) := by decide +kernel
theorem off7_eq : ∀ t : Fin k0_t1_loop.trips, k0_off7 t = ![8 * t.val, 0] := by decide +kernel

instance (t : Fin k0_t1_loop.trips) : ClosedOff (k0_off2 t) := ⟨_, off2_eq t⟩
instance (t : Fin k0_t1_loop.trips) : ClosedOff (k0_off5 t) := ⟨_, off5_eq t⟩
instance (t : Fin k0_t1_loop.trips) : ClosedOff (k0_off7 t) := ⟨_, off7_eq t⟩

private theorem csm_congr {off : Fin 1 → Nat} {s : Fin 2} (e : off = semOff s) (hh) :
    (cc0_scratch1.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x8x100000) off S1x8x100000.size hh) hs).squeeze S8x100000 squeezes_S1x8x100000_S8x100000 = rslot s :=
  congrArg (fun M : Memref sig .tc .vmem S1x8x100000 .f32 => M.squeeze S8x100000 squeezes_S1x8x100000_S8x100000) (Memref.slice_unit_congr _ e _ _ _ _)
private theorem slab_congr {off : Fin 2 → Nat} {b : Fin 16} (e : off = slabOff b) (hh hs) :
    aM.slice (Rect.unit (s := S128x100000) off S8x100000.size hh) hs = slab b :=
  Memref.slice_unit_congr _ e _ _ _ (fun _ => rfl)

@[sl_canon] theorem semL0 (hh) : (cc0_scratch1.slice (Rect.unit (s := S2) ![0] S1.size hh)).squeeze S_ squeezes_S1_S_ = csm 0 := csm_congr (by decide) _
@[sl_canon] theorem slotL0 (hh hs) : (bufM.slice (Rect.unit (s := S2x8x100000) ![0, 0, 0] S1x8x100000.size hh) hs).squeeze S8x100000 squeezes_S1x8x100000_S8x100000 = rslot 0 := rslot_congr (by decide) _ _
@[sl_canon] theorem slabL0 (hh hs) : aM.slice (Rect.unit (s := S128x100000) ![0, 0] S8x100000.size hh) hs = slab 0 := slab_congr (by decide) _ _
@[sl_canon] theorem semI (t : Fin k0_t1_loop.trips) (hh) :
    (cc0_scratch1.slice (Rect.unit (s := S2) (k0_off1 t) S1.size hh)).squeeze S_ squeezes_S1_S_ = csm (Ring.sl 2 (t.val + 1)) := csm_congr (off1_eq t) _
@[sl_canon] theorem slotI (t : Fin k0_t1_loop.trips) (hh hs) :
    (bufM.slice (Rect.unit (s := S2x8x100000) (k0_off2 t) S1x8x100000.size hh) hs).squeeze S8x100000 squeezes_S1x8x100000_S8x100000 = rslot (Ring.sl 2 (t.val + 1)) := rslot_congr (off2_eq t) _ _
@[sl_canon] theorem slabI (t : Fin k0_t1_loop.trips) (ht : t.val + 1 < 16) (hh hs) :
    aM.slice (Rect.unit (s := S128x100000) (k0_off3 t) S8x100000.size hh) hs = slab (Ring.bk 16 (t.val + 1)) := slab_congr (off3_eq t ht) _ _
@[sl_canon] theorem semK (t : Fin k0_t1_loop.trips) (hh) :
    (cc0_scratch1.slice (Rect.unit (s := S2) (k0_off4 t) S1.size hh)).squeeze S_ squeezes_S1_S_ = csm (Ring.sl 2 t.val) := csm_congr (off4_eq t) _
@[sl_canon] theorem slotK (t : Fin k0_t1_loop.trips) (hh hs) :
    (bufM.slice (Rect.unit (s := S2x8x100000) (k0_off5 t) S1x8x100000.size hh) hs).squeeze S8x100000 squeezes_S1x8x100000_S8x100000 = rslot (Ring.sl 2 t.val) := rslot_congr (off5_eq t) _ _
@[sl_canon] theorem slabK (t : Fin k0_t1_loop.trips) (hh hs) :
    aM.slice (Rect.unit (s := S128x100000) (k0_off6 t) S8x100000.size hh) hs = slab (Ring.bk 16 t.val) := slab_congr (off6_eq t) _ _

/-! ## The scan's value -/

/-- Chunk `j` of a slab. -/
def chunk (x : Vec F S8x100000 .f32) (j : ℕ) : Vec F Z .f32 :=
  fun i => x ((Rect.unit (s := S8x100000) ![0, start j] Z.size (start_inb j)).toLoadRect.idx i)
/-- What the scan of chunks `j`, …, `j + n - 1` of a slab makes of `st`. -/
def scanVal (x : Vec F S8x100000 .f32) (v3 v4 : IVec Z 32) (v23 : BitVec 32) (j : ℕ) : ℕ → FVec F Z .f32 × IVec Z 32 → FVec F Z .f32 × IVec Z 32
  | 0, st => st
  | n + 1, st => scanVal x v3 v4 v23 (j + 1) n (upd (cnt v4 v23 j) (col v3 j) st (chunk x j))

set_option backward.isDefEq.respectTransparency.types false in
theorem scanOf_wp (c : Dev nD) (M : Memref sig .tc .vmem S8x100000 .f32) (q : PosShare TreeShare) (f : Buf (Elt F) (M.view.loc (c : Thread nD τ)))
    (v3 v4 : IVec Z 32) (v23 : BitVec 32) {α : Type} (k : FVec F Z .f32 × IVec Z 32 → Prog (TpuEff nD τ sig (Elt F) Λ₀ .tc) α) (Q : α → sProp 𝕄) (n : ℕ) :
    ∀ (j : ℕ) (st : FVec F Z .f32 × IVec Z 32),
    iprop((M.view.loc (c : Thread nD τ) ↦[M.view.set]{q} f) ∗ ((M.view.loc (c : Thread nD τ) ↦[M.view.set]{q} f) -∗
        wp frame (wpE (defs₀ (F := F)) 𝒱₀ (c : Thread nD τ) none) Set.univ (k (scanVal (M.view.read (Elt F) f) v3 v4 v23 j n st)) Q))
      ⊢ wp frame (wpE (defs₀ (F := F)) 𝒱₀ (c : Thread nD τ) none) Set.univ (scanOf M v3 v4 v23 j n st >>= k) Q := by
  induction n with
  | zero =>
    intro j st
    iintro ⟨H, Hk⟩
    iapply Hk; iexact H
  | succ n ih =>
    intro j st
    rw [show (scanOf M v3 v4 v23 j (n + 1) st >>= k) = Prog.op (.load M (Rect.unit (s := S8x100000) ![0, start j] Z.size (start_inb j)).toLoadRect (View.loadsAt_vmem h_S8x1024))
      (fun x => scanOf M v3 v4 v23 (j + 1) n (upd (cnt v4 v23 j) (col v3 j) st x) >>= k) from rfl]
    refine exec_load 𝒱₀ (c : Thread nD τ) none Set.univ Laws.sep_comm (View.setOn_subset_set ..) (chunk (M.view.read (Elt F) f) j) ?_ ?_
    · rfl
    · exact ih (j + 1) _

/-! ## The pieces: a slab home, a slot held, a slot's semaphore, a slot in flight -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 16) : sProp 𝕄 := (slab b).view.loc (c : Thread nD τ) ↦[(slab b).view.set]{fullShare} XA
/-- Slab `b`'s words. -/
abbrev payload (b : Fin 16) : Vec F S8x100000 .f32 := ReadAs.same.apply ((slab b).view.read (Elt F) XA)
abbrev landed (s : Fin 2) (b : Fin 16) (f : Buf (Elt F) ((rslot s).view.loc (c : Thread nD τ))) : Buf (Elt F) ((rslot s).view.loc (c : Thread nD τ)) :=
  (rslot s).view.writes (Elt F) f [⟨Rect.whole S8x100000, payload c XA b⟩]
/-- What a slab's transfer adds to its semaphore. -/
abbrev NN : ℕ := 100096
abbrev flightP (s : Fin 2) (b : Fin 16) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

theorem homes_here (k : ℕ) (hk : k + 1 < 16) :
    bigSep (Ring.homeSet 1 k) (homeP c XA) = iprop(homeP c XA (Ring.bk 16 (k + 1)) ∗ bigSep ((Ring.homeSet 1 k).erase (Ring.bk 16 (k + 1))) (homeP c XA)) := by
  conv_lhs => rw [Ring.homeSet_out 1 k hk, bigSep_insert (Ring.bkL_not_mem_erase 1 k)]
  rfl
theorem homes_next (k : ℕ) (hk : k + 1 < 16) :
    bigSep (Ring.homeSet 1 (k + 1)) (homeP c XA) = iprop(homeP c XA (Ring.bk 16 k) ∗ bigSep ((Ring.homeSet 1 k).erase (Ring.bk 16 (k + 1))) (homeP c XA)) := by
  conv_lhs => rw [Ring.homeSet_succ 1 k hk, bigSep_insert (Ring.bk_not_mem_erase 1 k (by omega) (by decide))]
  rfl
end Pieces

section Trip
variable (c : Dev nD) (XA : Buf (Elt F) (aM.view.loc (c : Thread nD τ)))
  (arg1 : Memref sig .tc .vmem S128x1 .i32) (harg1 : arg1.IsWhole) (v3 : IVec Z 32)

abbrev oP (fo : Buf (Elt F) (arg1.view.loc (c : Thread nD τ))) : sProp 𝕄 := arg1.view.loc (c : Thread nD τ) ↦[arg1.view.set]{fullShare} fo

set_option backward.proofsInPublic true in
theorem fetchRun (k : Fin k0_t1_loop.trips) (hk : k.val + 1 < 16) (f0 f1 W) {α : Type} (K : PUnit → Prog (TpuEff nD τ sig (Elt F) Λ₀ .tc) α) (Q : α → sProp 𝕄) :
    iprop(owes (c : Thread nD τ) 0 W ∗ homeP c XA (Ring.bk 16 (k.val + 1)) ∗ flightP c XA (Ring.sl 2 k.val) (Ring.bk 16 k.val) f0
        ∗ slotP c (Ring.sl 2 (k.val + 1)) f1 ∗ cellP c (Ring.sl 2 (k.val + 1))
        ∗ ((∃ W, owes (c : Thread nD τ) 0 W) ∗ homeP c XA (Ring.bk 16 k.val) ∗ slotP c (Ring.sl 2 k.val) (landed c XA (Ring.sl 2 k.val) (Ring.bk 16 k.val) f0)
            ∗ cellP c (Ring.sl 2 k.val) ∗ flightP c XA (Ring.sl 2 (k.val + 1)) (Ring.bk 16 (k.val + 1)) f1 -∗
          wp frame (wpE (defs₀ (F := F)) 𝒱₀ (c : Thread nD τ) none) Set.univ (K ⟨⟩) Q))
      ⊢ wp frame (wpE (defs₀ (F := F)) 𝒱₀ (c : Thread nD τ) none) Set.univ (fetch aM bufM cc0_scratch1 k >>= K) Q := by
  have hc : k0_cond1 k = 1#1 := (cond_iff k).2 hk
  iintro ⟨HW, Hg, HF0, Hs1, Hc1, HK⟩
  sl_unfold [fetch]
  sl_exec
  iapply HK
  isplitl [HW]; · iexists _; iexact HW
  isplitl [HF0_src]; · iexact HF0_src
  isplitl [HF0_dst]; · iexact HF0_dst
  isplitl [HF0]; · iexact HF0
  iexact Hc1

set_option backward.proofsInPublic true in
theorem fetchRun_last (k : Fin k0_t1_loop.trips) (hk : ¬ k.val + 1 < 16) (f0 W) {α : Type} (K : PUnit → Prog (TpuEff nD τ sig (Elt F) Λ₀ .tc) α) (Q : α → sProp 𝕄) :
    iprop(owes (c : Thread nD τ) 0 W ∗ flightP c XA (Ring.sl 2 k.val) (Ring.bk 16 k.val) f0
        ∗ ((∃ W, owes (c : Thread nD τ) 0 W) ∗ homeP c XA (Ring.bk 16 k.val) ∗ slotP c (Ring.sl 2 k.val) (landed c XA (Ring.sl 2 k.val) (Ring.bk 16 k.val) f0)
            ∗ cellP c (Ring.sl 2 k.val) -∗
          wp frame (wpE (defs₀ (F := F)) 𝒱₀ (c : Thread nD τ) none) Set.univ (K ⟨⟩) Q))
      ⊢ wp frame (wpE (defs₀ (F := F)) 𝒱₀ (c : Thread nD τ) none) Set.univ (fetch aM bufM cc0_scratch1 k >>= K) Q := by
  have hc : ¬ k0_cond1 k = 1#1 := fun h => hk ((cond_iff k).1 h)
  iintro ⟨HW, HF0, HK⟩
  sl_unfold [fetch]
  sl_exec
  iapply HK
  isplitl [HW]; · iexists _; iexact HW
  isplitl [HF0_src]; · iexact HF0_src
  isplitl [HF0_dst]; · iexact HF0_dst
  iexact HF0

set_option backward.proofsInPublic true in
theorem finishRun (k : Fin k0_t1_loop.trips) (st : FVec F Z .f32 × IVec Z 32) (fo) (Q : Unit → sProp 𝕄) :
    iprop(oP c arg1 fo ∗ (oP c arg1 (arg1.view.writes (Elt F) fo [⟨Rect.unit (s := S128x1) (k0_off7 k) S8x1.size (k0_off7_inb k), pick st⟩]) -∗ Q ()))
      ⊢ wp frame (wpE (defs₀ (F := F)) 𝒱₀ (c : Thread nD τ) none) Set.univ (finish arg1 k st) Q := by
  iintro ⟨HO, HK⟩
  sl_unfold [finish]
  sl_exec
  sl_step
  iapply HK
  iexact HO

/-! ## What the trips store -/

/-- Trip `t`'s scan of a slab. -/
def tripSt (t : ℕ) (x : Vec F S8x100000 .f32) : FVec F Z .f32 × IVec Z 32 :=
  scanVal x v3 k0_pay1 (Scalar.addi (Scalar.muli (Scf.iv 0#32 1#32 t) 800000#32) 3453687069#32) 0 98 init
/-- Row `r` of a column of eight. -/
def ix81 (r : Fin 8) : S8x1.Idx := fun a => match a with
  | ⟨0, _⟩ => r
  | ⟨1, _⟩ => (0 : Fin 1)
/-- The result at `y`. -/
def res (y : S128x1.Idx) : Elt F .i32 :=
  pick (tripSt v3 ((y 0).val / 8) (payload c XA (Ring.bk 16 ((y 0).val / 8)))) (ix81 ⟨(y 0).val % 8, Nat.mod_lt _ (by omega)⟩)
/-- The first `k` trips' results are in. -/
def OutOK (k : ℕ) (fo : Buf (Elt F) (arg1.view.loc (c : Thread nD τ))) : Prop :=
  ∀ y : S128x1.Idx, (y 0).val < 8 * k → arg1.view.read (Elt F) fo y = res c XA v3 y

theorem outOK_zero (fo) : OutOK c XA arg1 v3 0 fo := fun y hy => absurd hy (by omega)
theorem outOK_succ (k : Fin k0_t1_loop.trips) (fo) (h : OutOK c XA arg1 v3 k.val fo) :
    OutOK c XA arg1 v3 (k.val + 1) (arg1.view.writes (Elt F) fo [⟨Rect.unit (s := S128x1) (k0_off7 k) S8x1.size (k0_off7_inb k), pick (tripSt v3 k.val (payload c XA (Ring.bk 16 k.val)))⟩]) := by
  intro y hy
  by_cases hlt : (y 0).val < 8 * k.val
  · rw [View.read_writes_cons_rows_of_not_mem arg1.view fo _ _ _ y (off7_eq k) (W := 8) rfl (Or.inl hlt)]
    exact h y hlt
  · have hd : (y 0).val / 8 = k.val := by omega
    have hy1 : (y 1).val = 0 := by have : (y 1).val < 1 := (y 1).isLt; omega
    refine (View.read_writes_cons_rows_of_mem (size := S8x1.size) arg1.view fo _ _ _ y (ix81 ⟨(y 0).val % 8, Nat.mod_lt _ (by omega)⟩) (off7_eq k)
      (by show (y 0).val = 8 * k.val + (y 0).val % 8; omega) (by show (y 1).val = 0; exact hy1)).trans ?_
    unfold res
    rw [hd]

/-- What is in flight before trip `k`: its slab; past the last trip, nothing. -/
def ringAt (k : ℕ) : sProp 𝕄 :=
  if k < 16 then
    iprop((∃ f, flightP c XA (Ring.sl 2 k) (Ring.bk 16 k) f) ∗ (∃ f, slotP c (Ring.sl 2 (k + 1)) f) ∗ cellP c (Ring.sl 2 (k + 1)))
  else
    iprop((∃ f, slotP c (Ring.sl 2 k) f) ∗ cellP c (Ring.sl 2 k) ∗ (∃ f, slotP c (Ring.sl 2 (k + 1)) f) ∗ cellP c (Ring.sl 2 (k + 1)))
/-- Before trip `k`. -/
def resAt (k : ℕ) : sProp 𝕄 :=
  iprop((∃ fo, oP c arg1 fo ∗ ⌜OutOK c XA arg1 v3 k fo⌝) ∗ (∃ W, owes (c : Thread nD τ) 0 W) ∗ bigSep (Ring.homeSet 1 k) (homeP c XA) ∗ ringAt c XA k)

theorem sl2_add2 (k : ℕ) : Ring.sl 2 (k + 1 + 1) = Ring.sl 2 k := by rw [show k + 1 + 1 = k + 2 from rfl, Ring.sl_add]

theorem read_landed (s : Fin 2) (b : Fin 16) (f) : (rslot s).view.read (Elt F) (landed c XA s b f) = payload c XA b :=
  View.read_writes_full (rslot s).view f (off := fun _ => 0) (fun _ => by omega) _ []

/-- The trip after its fetch: the scan and the store. -/
theorem restRun (k : Fin k0_t1_loop.trips) (f0 fo) (h : OutOK c XA arg1 v3 k.val fo) (Q : Unit → sProp 𝕄) :
    iprop(oP c arg1 fo ∗ slotP c (Ring.sl 2 k.val) (landed c XA (Ring.sl 2 k.val) (Ring.bk 16 k.val) f0)
        ∗ ((∃ fo, oP c arg1 fo ∗ ⌜OutOK c XA arg1 v3 (k.val + 1) fo⌝) ∗ slotP c (Ring.sl 2 k.val) (landed c XA (Ring.sl 2 k.val) (Ring.bk 16 k.val) f0) -∗ Q ()))
      ⊢ wp frame (wpE (defs₀ (F := F)) 𝒱₀ (c : Thread nD τ) none) Set.univ (scan bufM v3 k0_pay1 (v23T k) k 0 98 init >>= finish arg1 k) Q := by
  rw [show scan bufM v3 k0_pay1 (v23T k) k 0 98 (init (F := F)) = scanOf (rslot (Ring.sl 2 k.val)) v3 k0_pay1 (v23T k) 0 98 init from
    congrArg (fun M => scanOf M v3 k0_pay1 (v23T k) 0 98 init) (slotK k _ _)]
  iintro ⟨HO, HS, HK⟩
  iapply (scanOf_wp c (rslot (Ring.sl 2 k.val)) fullShare (landed c XA (Ring.sl 2 k.val) (Ring.bk 16 k.val) f0) v3 k0_pay1 (v23T k) (finish arg1 k) Q 98 0 init)
  isplitl [HS]; · iexact HS
  iintro HS
  rw [read_landed]
  iapply (finishRun c arg1 k _ fo Q)
  isplitl [HO]; · iexact HO
  iintro HO
  iapply HK
  isplitl [HO]
  · iexists _
    isplitl [HO]; · iexact HO
    ipureintro; exact outOK_succ c XA arg1 v3 k fo h
  iexact HS

theorem tripRun (k : Fin k0_t1_loop.trips) :
    resAt c XA arg1 v3 k.val ⊢ wp frame (wpE (defs₀ (F := F)) 𝒱₀ (c : Thread nD τ) none) Set.univ
      (k0_t1_body (F := F) aM (Memref.isWhole_whole _) arg1 harg1 bufM (Memref.isWhole_whole _) cc0_scratch1 v3 k ()) (fun _ => resAt c XA arg1 v3 (k.val + 1)) := by
  have hk16 : k.val < 16 := Nat.lt_of_lt_of_eq k.isLt trips_eq
  rw [body_eq]
  unfold resAt
  by_cases hk : k.val + 1 < 16
  · rw [homes_here c XA k.val hk, homes_next c XA k.val hk]
    unfold ringAt
    rw [if_pos hk16, if_pos hk]
    iintro ⟨⟨%fo, HO, %hO⟩, ⟨%W, HW⟩, ⟨Hg, Hrest⟩, ⟨%f0, HF⟩, ⟨%f1, Hs⟩, Hc⟩
    iapply (fetchRun c XA k hk f0 f1 W _ _)
    isplitl [HW]; · iexact HW
    isplitl [Hg]; · iexact Hg
    isplitl [HF]; · iexact HF
    isplitl [Hs]; · iexact Hs
    isplitl [Hc]; · iexact Hc
    iintro ⟨HW, Hg, Hs, Hc, HF⟩
    iapply (restRun c XA arg1 v3 k f0 fo hO _)
    isplitl [HO]; · iexact HO
    isplitl [Hs]; · iexact Hs
    iintro ⟨HO, Hs⟩
    isplitl [HO]; · iexact HO
    isplitl [HW]; · iexact HW
    isplitl [Hg Hrest]
    · isplitl [Hg]; · iexact Hg
      iexact Hrest
    isplitl [HF]; · iexists f1; iexact HF
    rw [sl2_add2]
    isplitl [Hs]; · iexists _; iexact Hs
    iexact Hc
  · have hk1 : k.val + 1 = 16 := by omega
    have hh : bigSep (Ring.homeSet 1 (k.val + 1)) (homeP c XA) = iprop(homeP c XA (Ring.bk 16 k.val) ∗ bigSep (Ring.homeSet 1 k.val) (homeP c XA)) := by
      conv_lhs => rw [Ring.homeSet_succ_tail 1 k.val (by omega) hk16, bigSep_insert (Ring.bk_not_mem_homeSet 1 k.val hk16 (by decide))]
      rfl
    rw [hh]
    unfold ringAt
    rw [if_pos hk16, if_neg hk]
    iintro ⟨⟨%fo, HO, %hO⟩, ⟨%W, HW⟩, Hrest, ⟨%f0, HF⟩, Hs', Hc'⟩
    iapply (fetchRun_last c XA k hk f0 W _ _)
    isplitl [HW]; · iexact HW
    isplitl [HF]; · iexact HF
    iintro ⟨HW, Hg, Hs, Hc⟩
    iapply (restRun c XA arg1 v3 k f0 fo hO _)
    isplitl [HO]; · iexact HO
    isplitl [Hs]; · iexact Hs
    iintro ⟨HO, Hs⟩
    isplitl [HO]; · iexact HO
    isplitl [HW]; · iexact HW
    isplitl [Hg Hrest]
    · isplitl [Hg]; · iexact Hg
      iexact Hrest
    rw [sl2_add2]
    isplitl [Hs']; · iexact Hs'
    isplitl [Hc']; · iexact Hc'
    isplitl [Hs]; · iexists _; iexact Hs
    iexact Hc

set_option warn.classDefReducibility false in
/-- The loop's invariant. -/
def loopInv :
    LoopInvTy_k0_t1 (F := F) Unit ℕ (UD sig nD τ) ℕ 𝒱₀ c none Set.univ aM (Memref.isWhole_whole _) arg1 harg1 bufM (Memref.isWhole_whole _) cc0_scratch1 v3 where
  inv k _ := resAt c XA arg1 v3 k
  step k acc := by cases acc; exact tripRun c XA arg1 harg1 v3 k

end Trip

/-! ## The kernel body -/

section Body
variable (c : Dev nD) (XA : Buf (Elt F) (aM.view.loc (c : Thread nD τ))) (arg1 : Memref sig .tc .vmem S128x1 .i32) (harg1 : arg1.IsWhole)

abbrev bodyG : Prog (TpuEff nD τ sig (Elt F) Λ₀ .tc) PUnit :=
  cc0__sample_kernel aM (Memref.isWhole_whole _) arg1 harg1 bufM (Memref.isWhole_whole _) cc0_scratch1
/-- The column numbers of a chunk. -/
abbrev v3K : IVec Z 32 := iota .tc S8x1024 32 [1] iota_S8x1024_d1_w32

abbrev PRE (gO : Buf (Elt F) (arg1.view.loc (c : Thread nD τ))) (W : Waits sig Unit) : sProp 𝕄 :=
  iprop(oP c arg1 gO ∗ homeP c XA 0 ∗ bigSep (Ring.homeSet 1 0) (homeP c XA)
    ∗ (∃ f, slotP c 0 f) ∗ (∃ f, slotP c 1 f) ∗ cellP c 0 ∗ cellP c 1 ∗ owes (c : Thread nD τ) 0 W)
abbrev POST : sProp 𝕄 :=
  iprop((∃ fo, oP c arg1 fo ∗ ⌜OutOK c XA arg1 v3K 16 fo⌝) ∗ bigSep Finset.univ (homeP c XA)
    ∗ (∃ f, slotP c 0 f) ∗ (∃ f, slotP c 1 f) ∗ cellP c 0 ∗ cellP c 1 ∗ ∃ W, owes (c : Thread nD τ) 0 W)

theorem resAt_zero (gO : Buf (Elt F) (arg1.view.loc (c : Thread nD τ))) (f0 f1 W) :
    iprop(oP c arg1 gO ∗ owes (c : Thread nD τ) 0 W ∗ bigSep (Ring.homeSet 1 0) (homeP c XA) ∗ flightP c XA 0 0 f0 ∗ slotP c 1 f1 ∗ cellP c 1)
      ⊢ resAt c XA arg1 v3K 0 := by
  unfold resAt ringAt
  rw [if_pos (by decide), show Ring.sl 2 0 = 0 from rfl, show Ring.bk 16 0 = 0 from rfl, show Ring.sl 2 (0 + 1) = 1 from rfl]
  iintro ⟨HO, HW, Hh, HF, Hs, Hc⟩
  isplitl [HO]
  · iexists gO
    isplitl [HO]; · iexact HO
    ipureintro; intro y hy; exact absurd hy (by omega)
  isplitl [HW]; · iexists W; iexact HW
  isplitl [Hh]; · iexact Hh
  isplitl [HF]; · iexists f0; iexact HF
  isplitl [Hs]; · iexists f1; iexact Hs
  iexact Hc
theorem resAt_last : resAt c XA arg1 v3K k0_t1_loop.trips ⊢ POST c XA arg1 := by
  rw [trips_eq]
  unfold resAt ringAt
  rw [if_neg (by decide), Ring.homeSet_last 1 16 le_rfl, show Ring.sl 2 16 = 0 from rfl, show Ring.sl 2 (16 + 1) = 1 from rfl]
  iintro ⟨HO, HW, Hh, Hs0, Hc0, Hs1, Hc1⟩
  isplitl [HO]; · iexact HO
  isplitl [Hh]; · iexact Hh
  isplitl [Hs0]; · iexact Hs0
  isplitl [Hs1]; · iexact Hs1
  isplitl [Hc0]; · iexact Hc0
  isplitl [Hc1]; · iexact Hc1
  iexact HW

/-- The loop from its first trip. -/
theorem loopRun (Q : PUnit → sProp 𝕄) :
    resAt c XA arg1 v3K 0 ⊢ iprop((∀ acc : Unit, resAt c XA arg1 v3K k0_t1_loop.trips -∗
        wp frame (wpE (defs₀ (F := F)) 𝒱₀ (c : Thread nD τ) none) Set.univ ((fun _ => Pure.pure PUnit.unit : Unit → Prog (TpuEff nD τ sig (Elt F) Λ₀ .tc) PUnit) acc) Q)
      -∗ wp frame (wpE (defs₀ (F := F)) 𝒱₀ (c : Thread nD τ) none) Set.univ (Scf.Loop.for k0_t1_loop k0_t1_ok ()
          (k0_t1_body (F := F) aM (Memref.isWhole_whole _) arg1 harg1 bufM (Memref.isWhole_whole _) cc0_scratch1 v3K) >>= fun _ => Pure.pure PUnit.unit) Q) :=
  exec_loop Idealize.ShloMosaic.frame (wpE (defs₀ (F := F)) 𝒱₀ (c : Thread nD τ) none) Set.univ k0_t1_loop.lb k0_t1_loop.ub k0_t1_loop.st
    k0_t1_ok () _ (loopInv c XA arg1 harg1 v3K)

theorem bodyRun (gO W) (Q : PUnit → sProp 𝕄) :
    iprop(PRE c XA arg1 gO W ∗ (POST c XA arg1 -∗ Q ⟨⟩))
      ⊢ wp frame (wpE (defs₀ (F := F)) 𝒱₀ (c : Thread nD τ) none) Set.univ (bodyG arg1 harg1) Q := by
  iintro ⟨⟨HO, Hg0, Hh, ⟨%f0, Hs0⟩, ⟨%f1, Hs1⟩, Hc0, Hc1, HW⟩, Hk⟩
  sl_exec
  ihave HI := (resAt_zero c XA arg1 gO f0 f1 W) $$ [HO HW Hh Hc0 Hs1 Hc1]
  · isplitl [HO]; · iexact HO
    isplitl [HW]; · iexact HW
    isplitl [Hh]; · iexact Hh
    isplitl [Hc0]; · iexact Hc0
    isplitl [Hs1]; · iexact Hs1
    iexact Hc1
  ihave HL := (loopRun c XA arg1 harg1 Q) $$ HI
  iapply HL
  iintro %acc HI
  sl_step
  iapply Hk
  iapply (resAt_last c XA arg1)
  iexact HI

end Body

end Cert.KernelIdeal.Gen

end
-- ==== Proof.Wire.lean ====
module

public import proofs.«01_k».proof.Proof.Run
public import Idealize.ShloMosaic.Lib.Pipeline.ValueKit.Geometry

/-! # The idealized kernel's run

The launch around the body: the body's obligation, the copy of its window to the result array and the reshape after it. `run_value` states
the whole run, at any floats. -/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD ΦD)
open Cert.Proof.Mix

variable {F : FTy → Type} [FloatOps F]

local notation "𝕄" => MT nD τ sig Unit (Elt F) ℕ (UD sig nD τ) ℕ

variable (m : (ℓ : Loc nD τ sig) → Buf (Elt F) ℓ) (ρ : Dev nD → PrngReg)

omit [FloatOps F] in
theorem entails_of_eq {P Q : sProp 𝕄} (e : P = Q) : P ⊢ Q := e ▸ .rfl

/-- The logits at launch. -/
abbrev XA (c : Dev nD) : Buf (Elt F) (aM.view.loc (c : Thread nD τ)) := m ((c : Thread nD τ).loc main_arg0)

/-- The kernel's own semaphores: the two slots'. -/
abbrev osem : Fin 2 → SemLoc sig := fun s => .dma (csm s).sem
theorem ownSemFacts : Pipeline.OwnSemFacts spec0 osem := by decide

/-! ## The logits by slabs, the scratch buffer by slots -/

abbrev GB (b : Fin 16) : Finset S128x100000.Idx := (Rect.unit (s := S128x100000) (slabOff b) S8x100000.size (slabOff_inb b)).set
abbrev GS (s : Fin 2) : Finset S2x8x100000.Idx := (Rect.unit (s := S2x8x100000) (slotOff s) S1x8x100000.size (slotOff_inb s)).set

omit [FloatOps F] in
theorem slab_set (b : Fin 16) : (slab b : Memref sig .tc .hbm _ _).view.set = GB b := View.set_slice_whole _ _
omit [FloatOps F] in
theorem rslot_set (s : Fin 2) : (rslot s : Memref sig .tc .vmem _ _).view.set = GS s := (View.set_reshape _ _).trans (View.set_slice_whole _ _)

theorem mem_GB (b : Fin 16) (y : S128x100000.Idx) : y ∈ GB b ↔ (y 0).val / 8 = b.val := by
  rw [Rect.mem_set_unit]
  have h1 : (y 1).val < 100000 := (y 1).isLt
  constructor
  · intro H; have a0 : 8 * b.val ≤ (y 0).val ∧ (y 0).val < 8 * b.val + 8 := H 0; omega
  · intro H i; fin_cases i
    · show 8 * b.val ≤ (y 0).val ∧ (y 0).val < 8 * b.val + 8; omega
    · show 0 ≤ (y 1).val ∧ (y 1).val < 0 + 100000; omega
theorem mem_GS (s : Fin 2) (y : S2x8x100000.Idx) : y ∈ GS s ↔ (y 0).val = s.val := by
  rw [Rect.mem_set_unit]
  have h1 : (y 1).val < 8 := (y 1).isLt
  have h2 : (y 2).val < 100000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 8; omega
    · show 0 ≤ (y 2).val ∧ (y 2).val < 0 + 100000; omega
theorem GB_disjoint : ∀ b b' : Fin 16, b ≠ b' → Disjoint (GB b) (GB b') := by
  intro b b' hne; rw [Finset.disjoint_left]; intro y hy hy'; rw [mem_GB] at hy hy'; exact hne (Fin.ext (hy.symm.trans hy'))
theorem GB_cover : (Finset.univ : Finset (Fin 16)).biUnion GB = Finset.univ := by
  ext y; simp only [Finset.mem_biUnion, Finset.mem_univ, true_and, iff_true]
  have h0 : (y 0).val < 128 := (y 0).isLt
  exact ⟨⟨(y 0).val / 8, by omega⟩, by rw [mem_GB]⟩
theorem GS_disjoint : ∀ s s' : Fin 2, s ≠ s' → Disjoint (GS s) (GS s') := by
  intro s s' hne; rw [Finset.disjoint_left]; intro y hy hy'; rw [mem_GS] at hy hy'; exact hne (Fin.ext (hy.symm.trans hy'))
theorem GS_cover : (Finset.univ : Finset (Fin 2)).biUnion GS = Finset.univ := by
  ext y; simp only [Finset.mem_biUnion, Finset.mem_univ, true_and, iff_true]
  have h0 : (y 0).val < 2 := (y 0).isLt
  exact ⟨⟨(y 0).val, h0⟩, by rw [mem_GS]⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The logits whole are their slabs. -/
theorem a_eq (c : Dev nD) :
    (((c : Thread nD τ).loc main_arg0) ↦{fullShare} m ((c : Thread nD τ).loc main_arg0) : sProp 𝕄) = bigSep Finset.univ (homeP c (XA m c)) := by
  rw [Ring.pointsTo_blocks (ℓ := (c : Thread nD τ).loc main_arg0) GB GB_disjoint GB_cover]
  exact bigSep_congr fun b _ => by rw [← slab_set]; rfl
theorem homes_zero (c : Dev nD) (X : Buf (Elt F) (aM.view.loc (c : Thread nD τ))) :
    bigSep Finset.univ (homeP c X) = iprop(homeP c X 0 ∗ bigSep (Ring.homeSet 1 0) (homeP c X)) := by
  have e : (Finset.univ : Finset (Fin 16)) = insert 0 (Ring.homeSet (NB := 16) 1 0) := by
    ext b; simp only [Finset.mem_univ, Finset.mem_insert, Ring.mem_homeSet, true_iff, Fin.ext_iff]; have := b.isLt; show b.val = 0 ∨ _; omega
  rw [e, bigSep_insert (by simp [Ring.mem_homeSet])]; rfl

omit [FloatOps F] in
theorem slotP_eq (c : Dev nD) (s : Fin 2) (f) : slotP c s f = (((c : Thread nD τ).loc cc0_scratch0) ↦[GS s]{fullShare} f : sProp 𝕄) :=
  congrArg (fun S => (_ ↦[S]{fullShare} f : sProp 𝕄)) (rslot_set s)
/-- The scratch buffer whole is its two slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch0) GS GS_disjoint GS_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) GS GS_disjoint GS_cover f0)
  irw [bigSep_fin2]
  isplitl [H0]
  · iexists f0; iapply (entails_of_eq (slotP_eq c 0 f0)); iexact H0
  · iexists f1; iapply (entails_of_eq (slotP_eq c 1 f1)); iexact H1

omit [FloatOps F] in
theorem ownSems0_eq (c : Dev nD) : (Pipeline.ownSems0 (Ix := Unit) (Name := ℕ) (U := UD sig nD τ) (Lvl := ℕ) (Val := Elt F) (τ := τ) osem c : sProp 𝕄)
    = iprop(cellP c 0 ∗ cellP c 1) := by
  unfold Pipeline.ownSems0; rw [bigSep_fin2]

/-! ## The launch's data -/

/-- The operands the kernel moves itself. -/
abbrev HA : Finset (Ref sig .tc) := {main_arg0}
abbrev Φ0 (c : Dev nD) : sProp 𝕄 := ΦD osem spec0 HA (fun c b => V0 m c (Proc.devRef .tc b)) c

theorem Φ0_eq (c : Dev nD) : (Φ0 m c : sProp 𝕄)
    = iprop((∃ f : Buf (Elt F) ((c : Thread nD τ).loc cc0_scratch0), ((c : Thread nD τ).loc cc0_scratch0) ↦{fullShare} f) ∗ (∃ r, prngReg c r)
        ∗ (cellP c 0 ∗ cellP c 1) ∗ bigSep Finset.univ (homeP c (XA m c))) := by
  unfold Φ0
  rw [Pipeline.ΦD_eq, scopedRest0_eq, ownSems0_eq, bigSep_singleton, ← a_eq]
  rfl

/-- What the run leaves in the output array. -/
def outAt (c : Dev nD) : S128x1.Idx → Elt F .i32 := res c (XA m c) v3K

def dats (_ : Fin 1) (c : Dev nD) : Dat τ (Elt F) Unit ℕ (UD sig nD τ) ℕ cfg0 c where
  A w := V m c (Pipeline.arrRef spec0 w)
  after w t := match w with
    | ⟨0, _⟩ => outAt m c
  Φ _ := Φ0 m c
  q _ := fullShare
  owed _ := 0

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (win0_0.stage (cfg0.slots t 0)) (hstage0_0 0) :=
  (congrFun defs_tc _).trans rfl

theorem after_w0 (c : Dev nD) (t : Fin cfg0.N) : (dats m 0 c).after 0 t = outAt m c := by dsimp only [dats]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ0 m c from rfl, show (dats m 0 c).Φ t.succ = Φ0 m c from rfl, Φ0_eq]
  unfold Dat.owesAt Pipeline.owesWithin
  rw [show (dats m 0 c).owed t.castSucc = 0 from rfl, show (dats m 0 c).owed t.succ = 0 from rfl]
  unfold owns
  iintro ⟨⟨Hb, Hp, ⟨Hc0, Hc1⟩, Hh⟩, ⟨%W, -, HW⟩, ⟨%d0, %gO, -, HO⟩⟩
  ihave Hs := (buf_split c) $$ Hb
  icases Hs with ⟨Hs0, Hs1⟩
  ihave Hh2 := (entails_of_eq (homes_zero c (XA m c))) $$ Hh
  icases Hh2 with ⟨Hg0, Hh⟩
  sl_rw [prog_eq t]
  iapply (bodyRun c (XA m c) (win0_0.stage (cfg0.slots t 0)) (hstage0_0 0) gO W)
  isplitl [HO Hg0 Hh Hs0 Hs1 Hc0 Hc1 HW]
  · isplitl [HO]; · iexact HO
    isplitl [Hg0]; · iexact Hg0
    isplitl [Hh]; · iexact Hh
    isplitl [Hs0]; · iexact Hs0
    isplitl [Hs1]; · iexact Hs1
    isplitl [Hc0]; · iexact Hc0
    isplitl [Hc1]; · iexact Hc1
    iexact HW
  · iintro ⟨⟨%fo, HO, %hO⟩, Hh, Hs0, Hs1, Hc0, Hc1, ⟨%W', HW⟩⟩
    isplitl [Hh Hs0 Hs1 Hc0 Hc1 Hp]
    · isplitl [Hs0 Hs1]
      · iapply (buf_join c)
        isplitl [Hs0]; · iexact Hs0
        iexact Hs1
      isplitl [Hp]; · iexact Hp
      isplitl [Hc0 Hc1]
      · isplitl [Hc0]; · iexact Hc0
        iexact Hc1
      iexact Hh
    isplitl [HW]
    · iexists W'; isplitr; · ipureintro; exact fun _ _ => Or.inl trivial
      iexact HW
    iexists fo; isplitr
    · ipureintro; exact funext fun y => hO y (Nat.lt_of_lt_of_eq (y 0).isLt rfl)
    iexact HO

/-! ## The run -/

theorem hmainD : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

theorem sfx_subH : ∀ ops ∈ ([hostOps1] : List (List (HloOp τ sig (Elt F)))), ∀ op ∈ ops,
    op.bufs ⊆ Pipeline.tailRefsBut sig Pipeline.Prefetch.none spec0 HA := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  rw [Finset.mem_singleton] at hb
  subst hb
  rw [StableHlo.TRef.reshape, StableHlo.reshape_bufs]
  simp only [Finset.mem_insert, Finset.mem_singleton, not_or]
  exact ⟨StableHlo.devRef_ne_of_ne (by decide), StableHlo.devRef_ne_of_ne (by decide)⟩

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HA (by decide) m ρ main
    (fun c => (body_obligation m c).loose) (fun c => (dats m 0 c).share_full fun _ => rfl) (fun _ _ => rfl)
    (V0 m) [hostOps1] sfx_subH sfx_fresh sfx_keeps (hmainD m) (fun _ _ => rfl) (fun _ => .rfl) (fun _ => .rfl) _ (fun _ h => h)

/-! ## What the run leaves -/

theorem W_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem final_o (c : Dev nD) : (dats m 0 c).arrAt 0 cfg0.N = outAt m c := by
  refine (dats m 0 c).arrAt_eq_of_after_last 0 t0_0 (by decide +kernel) _ fun j => ?_
  rw [after_w0]
  generalize outAt m c = X
  rfl

theorem exit_o (c : Dev nD) : Pipeline.withArrays (cfgs 0).spec c (V0 m c) (fun w => (dats m 0 c).arrAt w (cfgs 0).N)
    (Proc.devRef .tc main_call0_v0) = outAt m c :=
  (Pipeline.withArrays_arr spec0 (by decide) c (V0 m c) (fun w => (dats m 0 c).arrAt w cfg0.N) 0).trans (final_o m c)

theorem reshape_at (W : Valuation τ sig (Elt F)) (X : S128x1.Idx → Elt F .i32) (h : W (Proc.devRef .tc main_call0_v0) = X) :
    StableHlo.after hostOps1 W (Proc.devRef .tc main_v0) = shapeCast S128 X shapeCasts_S128x1_S128 := by
  subst h
  simp only [hostOps1, StableHlo.after_cons, StableHlo.after_nil]
  rw [StableHlo.TRef.reshape, StableHlo.reshape_result]
  rfl

theorem W_v0 (c : Dev nD) : Pipeline.afterTail₀ cfgs (dats m) 0 (V0 m) [hostOps1] c main_v0 = shapeCast S128 (outAt m c) shapeCasts_S128x1_S128 := by
  unfold Pipeline.afterTail₀
  exact reshape_at _ _ (exit_o m c)

/-- The run: the output array at its value, the logits unchanged, the semaphores at rest. -/
theorem run_value : θ_run defs (onTc (τ := τ) (main (F := F))) (s₀ m ρ)
    (fun r => (∀ c : Dev nD, r.2.mem ((c : Thread nD τ).loc main_v0) = shapeCast S128 (outAt m c) shapeCasts_S128x1_S128
      ∧ r.2.mem ((c : Thread nD τ).loc main_arg0) = m ((c : Thread nD τ).loc main_arg0)) ∧ r.2.sem = fun _ => 0) :=
  (θ_run defs _ _).mono (fun _ h => ⟨fun c =>
    ⟨((h.1 c).2 main_v0 (Pipeline.mem_restRefs_of main_v0 (by decide) (by decide))).trans (W_v0 m c),
      ((h.1 c).2 main_arg0 (Pipeline.mem_restRefs_of main_arg0 (by decide) (by decide))).trans (W_arg0 m c)⟩, h.2⟩) (run_main m ρ)

end Cert.KernelIdeal.Gen

end
-- ==== Proof.Same.lean ====
module

public import proofs.«01_k».proof.Proof.Wire
public import proofs.«01_k».proof.Proof.Gen.Kernel
public import proofs.«01_k».proof.Defs

/-! # The kernel's own program

No operation was rewritten for the idealized kernel, so the two programs are the same text, and the run of one is the run of the
other. -/

@[expose] public section

set_option maxRecDepth 100000
noncomputable section

namespace Cert.Proof.Same

open Idealize.ShloMosaic Idealize.ShloMosaic.TcCoe Idealize.SL.Sem

variable {F : FTy → Type} [FloatOps F]

theorem defs0_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : @Cert.Kernel.defs F _ Cert.Kernel.Gen.facts = @Cert.KernelIdeal.defs F _ Cert.KernelIdeal.Gen.facts := by
  exact congrArg (Pipeline.defs (Cert.KernelIdeal.pcfgs (F := F))) defs0_eq

theorem run_eq : θ_run (@Cert.Kernel.defs F _ Cert.Kernel.Gen.facts) (onTc (τ := Cert.Kernel.τ) (@Cert.Kernel.main F _))
    = θ_run (@Cert.KernelIdeal.defs F _ Cert.KernelIdeal.Gen.facts) (onTc (τ := Cert.KernelIdeal.τ) (@Cert.KernelIdeal.main F _)) :=
  congrArg (fun d => θ_run d (onTc (τ := Cert.KernelIdeal.τ) (@Cert.KernelIdeal.main F _))) defs_eq

/-- The kernel terminates, keeps its argument and leaves its semaphores at zero. -/
theorem quiescent : Cert.quiescent_Kernel (hKernel := Cert.Kernel.Gen.facts) := fun m g _ => by
  rw [run_eq]
  exact (θ_run (Cert.KernelIdeal.defs (F := Bits)) _ _).mono (fun _ h => ⟨fun c => (h.1 c).2, h.2⟩) (Cert.KernelIdeal.Gen.run_value (F := Bits) m g)

end Cert.Proof.Same
end
-- ==== Proof.Chain.lean ====
module

public import Idealize.ShloMosaic.Lib.StableHlo.Run

/-! # A straight line of host operations in which every buffer is written once

`Chain ops lo hi E` says that the operations `ops` write only the buffers numbered `lo` up to `hi`, and that `E` holds
of what they leave, whatever is written afterwards at `hi` or above. The equations of a long line are then collected
operation by operation and read together at its end. -/

@[expose] public section

noncomputable section

namespace Cert.Proof.Chain

open Idealize.ShloMosaic Idealize.ShloMosaic.StableHlo

variable {τ : Topo} {sig : RefSig} {Val : EltTy → Type}

/-- A buffer's number. -/
abbrev num (r : Ref sig .tc) : ℕ := r.idx.val

/-- The two agree on every buffer numbered below `n`. -/
def Below (n : ℕ) (V W : Valuation τ sig Val) : Prop := ∀ r : Ref sig .tc, num r < n → W (Proc.devRef .tc r) = V (Proc.devRef .tc r)

theorem Below.trans {n k : ℕ} {V W X : Valuation τ sig Val} (h : Below n V W) (h' : Below k W X) (hn : n ≤ k) : Below n V X :=
  fun r hr => (h' r (Nat.lt_of_lt_of_le hr hn)).trans (h r hr)

def Chain (ops : List (HloOp τ sig Val)) (lo hi : ℕ) (E : Valuation τ sig Val → Prop) : Prop :=
  lo ≤ hi ∧ (∀ op ∈ ops, op.bufs ⊆ tcRefs τ sig ∧ op.fresh = ∅) ∧
    ∀ V, Below lo V (after ops V) ∧ ∀ W, Below hi (after ops V) W → E W

theorem after_app (l₁ l₂ : List (HloOp τ sig Val)) : ∀ V, after (l₁ ++ l₂) V = after l₂ (after l₁ V) := by
  induction l₁ with
  | nil => exact fun _ => rfl
  | cons op l ih => exact fun V => ih (op.result V)

theorem Chain.app {l₁ l₂ : List (HloOp τ sig Val)} {lo mid hi : ℕ} {E₁ E₂ : Valuation τ sig Val → Prop}
    (h₁ : Chain l₁ lo mid E₁) (h₂ : Chain l₂ mid hi E₂) : Chain (l₁ ++ l₂) lo hi (fun W => E₁ W ∧ E₂ W) := by
  refine ⟨h₁.1.trans h₂.1, fun op hop => ?_, fun V => ?_⟩
  · rcases List.mem_append.mp hop with h | h
    · exact h₁.2.1 op h
    · exact h₂.2.1 op h
  · rw [after_app]
    obtain ⟨b₁, e₁⟩ := h₁.2.2 V
    obtain ⟨b₂, e₂⟩ := h₂.2.2 (after l₁ V)
    exact ⟨b₁.trans b₂ h₁.1, fun W hW => ⟨e₁ W (b₂.trans hW h₂.1), e₂ W hW⟩⟩

theorem Chain.nil (n : ℕ) : Chain ([] : List (HloOp τ sig Val)) n n (fun _ => True) :=
  ⟨le_rfl, fun _ h => absurd h List.not_mem_nil, fun _ => ⟨fun _ _ => rfl, fun _ _ => trivial⟩⟩

theorem Chain.cons {op : HloOp τ sig Val} {l : List (HloOp τ sig Val)} {lo mid hi : ℕ} {E₁ E₂ : Valuation τ sig Val → Prop}
    (h₁ : Chain [op] lo mid E₁) (h₂ : Chain l mid hi E₂) : Chain (op :: l) lo hi (fun W => E₁ W ∧ E₂ W) := h₁.app h₂

theorem Chain.mono {l : List (HloOp τ sig Val)} {lo hi : ℕ} {E E' : Valuation τ sig Val → Prop}
    (h : Chain l lo hi E) (hE : ∀ W, E W → E' W) : Chain l lo hi E' :=
  ⟨h.1, h.2.1, fun V => ⟨(h.2.2 V).1, fun W hW => hE W ((h.2.2 V).2 W hW)⟩⟩

/-- What a typed reference's buffer holds. -/
def at' {T : BufTy} (W : Valuation τ sig Val) (x : TRef sig T) : T.Contents Val := x.ofBuf (W (Proc.devRef .tc x.ref))

theorem at'_congr {T : BufTy} {V W : Valuation τ sig Val} {x : TRef sig T} (h : W (Proc.devRef .tc x.ref) = V (Proc.devRef .tc x.ref)) :
    at' W x = at' V x := by unfold at'; rw [h]

/-- One operation that writes buffer `n`, from what it leaves there. -/
theorem single {T : BufTy} (op : HloOp τ sig Val) (y : TRef sig T) (hb : op.bufs ⊆ tcRefs τ sig) (hf : op.fresh = ∅)
    (hw : op.writes = {Proc.devRef .tc y.ref}) {n : ℕ} (hy : num y.ref = n) (E : Valuation τ sig Val → Prop)
    (hE : ∀ V W, Below n V W → W (Proc.devRef .tc y.ref) = op.result V (Proc.devRef .tc y.ref) → E W) :
    Chain [op] n (n + 1) E := by
  have keep : ∀ V, Below n V (op.result V) := fun V r hr => op.result_of_not_mem V (by
    rw [hw, Finset.mem_singleton]
    intro e
    have := Proc.devRef_injective _ e
    subst this; omega)
  refine ⟨Nat.le_succ n, fun o ho => ?_, fun V => ⟨keep V, fun W hW => ?_⟩⟩
  · obtain rfl := List.mem_singleton.mp ho
    exact ⟨hb, hf⟩
  · exact hE V W ((keep V).trans hW (Nat.le_succ n)) (hW y.ref (by omega))

variable {Tx Ta Tb Tc Te Ty : BufTy}

theorem nullary {y : TRef sig Ty} (v : Ty.Contents Val) {n : ℕ} (hy : num y.ref = n) :
    Chain [TRef.nullary (τ := τ) y v] n (n + 1) (fun W => at' W y = v) :=
  single _ y (nullary_bufs_sub ..) rfl rfl hy _ fun V W hV hW => by
    unfold at'
    rw [hW, nullary_result]
    simp [TRef.ofBuf, TRef.toBuf]

theorem unary {x : TRef sig Tx} {y : TRef sig Ty} (f : Tx.Contents Val → Ty.Contents Val) {n : ℕ} (hy : num y.ref = n)
    (hx : num x.ref < n) :
    Chain [TRef.unary (τ := τ) x y f] n (n + 1) (fun W => at' W y = f (at' W x)) :=
  single _ y (unary_bufs_sub ..) rfl rfl hy _ fun V W hV hW => by
    rw [at'_congr (hV x.ref hx)]
    unfold at'
    rw [hW, unary_result]
    simp [TRef.ofBuf, TRef.toBuf]

theorem binary {a : TRef sig Ta} {b : TRef sig Tb} {y : TRef sig Ty} (f : Ta.Contents Val → Tb.Contents Val → Ty.Contents Val)
    {n : ℕ} (hy : num y.ref = n) (ha : num a.ref < n) (hb : num b.ref < n) :
    Chain [TRef.binary (τ := τ) a b y f] n (n + 1) (fun W => at' W y = f (at' W a) (at' W b)) :=
  single _ y (binary_bufs_sub ..) rfl rfl hy _ fun V W hV hW => by
    rw [at'_congr (hV a.ref ha), at'_congr (hV b.ref hb)]
    unfold at'
    rw [hW, binary_result]
    simp [TRef.ofBuf, TRef.toBuf]

theorem quaternary {a : TRef sig Ta} {b : TRef sig Tb} {c : TRef sig Tc} {e : TRef sig Te} {y : TRef sig Ty}
    (f : Ta.Contents Val → Tb.Contents Val → Tc.Contents Val → Te.Contents Val → Ty.Contents Val)
    {n : ℕ} (hy : num y.ref = n) (ha : num a.ref < n) (hb : num b.ref < n) (hc : num c.ref < n) (he : num e.ref < n) :
    Chain [TRef.quaternary (τ := τ) a b c e y f] n (n + 1) (fun W => at' W y = f (at' W a) (at' W b) (at' W c) (at' W e)) :=
  single _ y (quaternary_bufs_sub ..) rfl rfl hy _ fun V W hV hW => by
    rw [at'_congr (hV a.ref ha), at'_congr (hV b.ref hb), at'_congr (hV c.ref hc), at'_congr (hV e.ref he)]
    unfold at'
    rw [hW, quaternary_result]
    simp [TRef.ofBuf, TRef.toBuf]

theorem cast_reshape {s t : Shape} {φ : EltTy} {A B : BufTy} (hA : A = ⟨s, φ⟩) (hB : B = ⟨t, φ⟩) (X : A.Contents Val) (he : A.elt = B.elt)
    (h : A.shape.ShapeCasts B.shape) (hn : s.ShapeCasts t) :
    (cast (congrArg (fun U : BufTy => U.Contents Val) hB) (fun i => he ▸ shapeCast B.shape X h i : B.Contents Val) : t.Idx → Val φ)
      = shapeCast t (cast (congrArg (fun U : BufTy => U.Contents Val) hA) X : s.Idx → Val φ) hn := by
  subst hA hB
  rfl

/-- A reshape between buffers of one element type. -/
theorem reshape {s t : Shape} {φ : EltTy} {x : TRef sig ⟨s, φ⟩} {y : TRef sig ⟨t, φ⟩} (hn : s.ShapeCasts t) {n : ℕ}
    (hy : num y.ref = n) (hx : num x.ref < n) :
    Chain [TRef.reshape (τ := τ) (Val := Val) x y rfl hn] n (n + 1)
      (fun W => (at' W y : t.Idx → Val φ) = shapeCast t (at' W x : s.Idx → Val φ) hn) :=
  single _ y (reshape_bufs_sub ..) rfl rfl hy _ fun V W hV hW => by
    rw [at'_congr (hV x.ref hx)]
    unfold at'
    rw [hW, reshape_result]
    exact cast_reshape x.ty_eq y.ty_eq _ _ _ hn

end Cert.Proof.Chain

end
-- ==== Proof.Cipher.lean ====
module

public import proofs.«01_k».proof.Proof.Chain
public import Idealize.ShloMosaic.PureOps

/-! # The threefry2x32 cipher as a line of host operations

The cipher on two words of 32 bits (`cipher`), and the line of operations that computes it at every index of a shape,
over any buffers of a program that are written once, in order (`CipherBufs`). -/

@[expose] public section

noncomputable section

namespace Cert.Proof.Chain

open Idealize.ShloMosaic Idealize.ShloMosaic.StableHlo

/-! ## The cipher -/

/-- A pair of words. -/
abbrev Pair : Type := BitVec 32 × BitVec 32

/-- One round, rotating by `l`. -/
def rnd (l : ℕ) (p : Pair) : Pair := (p.1 + p.2, (p.1 + p.2) ^^^ (p.2 <<< l ||| p.2 >>> (32 - l)))
/-- The key injected. -/
def inj (k k' : BitVec 32) (p : Pair) : Pair := (p.1 + k, p.2 + k')
/-- Four rounds and an injection. -/
def grp (l₁ l₂ l₃ l₄ : ℕ) (k k' : BitVec 32) (p : Pair) : Pair := inj k k' (rnd l₄ (rnd l₃ (rnd l₂ (rnd l₁ p))))
/-- The third key word. -/
def third (k0 k1 : BitVec 32) : BitVec 32 := k0 ^^^ k1 ^^^ 466688986#32
/-- The cipher of the key `k0`, `k1` at the words `p`. -/
def cipher (k0 k1 : BitVec 32) (p : Pair) : Pair :=
  grp 13 15 26 6 (third k0 k1) (k0 + 5#32) <| grp 17 29 16 24 k1 (third k0 k1 + 4#32) <| grp 13 15 26 6 k0 (k1 + 3#32) <|
    grp 17 29 16 24 (third k0 k1) (k0 + 2#32) <| grp 13 15 26 6 k1 (third k0 k1 + 1#32) <| inj k0 k1 p

/-! ## The line of operations -/

/-- The shape of a scalar, and its index. -/
abbrev Z : Shape := ⟨0, ![]⟩
abbrev z0 : Z.Idx := fun a => a.elim0

/-- A buffer of words, and one of a single word. -/
abbrev VRef (sig : RefSig) (S : Shape) : Type := TRef sig ⟨S, .i32⟩
abbrev KRef (sig : RefSig) : Type := TRef sig ⟨Z, .i32⟩

variable {τ : Topo} {sig : RefSig} {F : FTy → Type} [FloatOps F] {S : Shape}

local notation "SV" => Valuation τ sig (Elt F)

/-- A vector's word at an index, and a scalar's word. -/
abbrev wd (W : SV) (x : VRef sig S) (i : S.Idx) : BitVec 32 := (at' W x : S.Idx → BitVec 32) i
abbrev sc (W : SV) (k : KRef sig) : BitVec 32 := (at' W k : Z.Idx → BitVec 32) z0

variable (bc : (Z.Idx → BitVec 32) → S.Idx → BitVec 32)

/-- One operation on words. -/
theorem words {T : Shape} {a b y : TRef sig ⟨T, .i32⟩} (f : (T.Idx → BitVec 32) → (T.Idx → BitVec 32) → T.Idx → BitVec 32) {n : ℕ}
    (hy : num y.ref = n) (ha : num a.ref < n) (hb : num b.ref < n) :
    Chain [(TRef.binary a b y f : HloOp τ sig (Elt F))] n (n + 1)
      (fun W => (at' W y : T.Idx → BitVec 32) = f (at' W a : T.Idx → BitVec 32) (at' W b : T.Idx → BitVec 32)) :=
  binary (Val := Elt F) (Ta := ⟨T, .i32⟩) (Tb := ⟨T, .i32⟩) (Ty := ⟨T, .i32⟩) f hy ha hb

/-- One word broadcast. -/
theorem spread {k : KRef sig} {y : VRef sig S} {n : ℕ} (hy : num y.ref = n) (hx : num k.ref < n) :
    Chain [(TRef.unary k y bc : HloOp τ sig (Elt F))] n (n + 1)
      (fun W => (at' W y : S.Idx → BitVec 32) = bc (at' W k : Z.Idx → BitVec 32)) :=
  unary (Val := Elt F) (Tx := ⟨Z, .i32⟩) (Ty := ⟨S, .i32⟩) bc hy hx

/-- A constant word. -/
theorem const {y : KRef sig} (v : BitVec 32) {n : ℕ} (hy : num y.ref = n) :
    Chain [(TRef.nullary y (constantI Z 32 v) : HloOp τ sig (Elt F))] n (n + 1) (fun W => (at' W y : Z.Idx → BitVec 32) = constantI Z 32 v) :=
  nullary (Val := Elt F) (Ty := ⟨Z, .i32⟩) _ hy

/-- The buffers of a round, in the order written. -/
structure RoundBufs (sig : RefSig) (S : Shape) where
  t : VRef sig S
  c₁ : KRef sig
  b₁ : VRef sig S
  s₁ : VRef sig S
  c₂ : KRef sig
  b₂ : VRef sig S
  s₂ : VRef sig S
  o : VRef sig S
  y : VRef sig S

/-- They are numbered `n`, `n + 1`, …. -/
def RoundBufs.From (B : RoundBufs sig S) (n : ℕ) : Prop :=
  num B.t.ref = n ∧ num B.c₁.ref = n + 1 ∧ num B.b₁.ref = n + 2 ∧ num B.s₁.ref = n + 3 ∧ num B.c₂.ref = n + 4 ∧ num B.b₂.ref = n + 5
    ∧ num B.s₂.ref = n + 6 ∧ num B.o.ref = n + 7 ∧ num B.y.ref = n + 8
instance (B : RoundBufs sig S) (n : ℕ) : Decidable (B.From n) := by unfold RoundBufs.From; infer_instance

/-- A round's operations, from the words in `x₀` and `x₁`, rotating by `l` (`r = 32 - l`). -/
def roundOps (B : RoundBufs sig S) (x₀ x₁ : VRef sig S) (l r : BitVec 32) : List (HloOp τ sig (Elt F)) :=
  [TRef.binary x₀ x₁ B.t addi] ++ ([TRef.nullary B.c₁ (constantI Z 32 l)] ++ ([TRef.unary B.c₁ B.b₁ bc] ++ ([TRef.binary x₁ B.b₁ B.s₁ Host.shli]
    ++ ([TRef.nullary B.c₂ (constantI Z 32 r)] ++ ([TRef.unary B.c₂ B.b₂ bc] ++ ([TRef.binary x₁ B.b₂ B.s₂ Host.shrui]
      ++ ([TRef.binary B.s₁ B.s₂ B.o ori] ++ [TRef.binary B.t B.o B.y xori])))))))

theorem round_chain (hbc : ∀ v i, bc v i = v z0) (B : RoundBufs sig S) (x₀ x₁ : VRef sig S) (l r : BitVec 32) (k : ℕ) {n : ℕ} (hB : B.From n)
    (h₀ : num x₀.ref < n) (h₁ : num x₁.ref < n) (hk : 0 < k ∧ k < 32 ∧ l = BitVec.ofNat 32 k ∧ r = BitVec.ofNat 32 (32 - k)) :
    Chain (roundOps (τ := τ) (F := F) bc B x₀ x₁ l r) n (n + 9)
      (fun W => ∀ i, (wd W B.t i, wd W B.y i) = rnd k (wd W x₀ i, wd W x₁ i)) := by
  obtain ⟨e1, e2, e3, e4, e5, e6, e7, e8, e9⟩ := hB
  obtain ⟨k0, k32, rfl, rfl⟩ := hk
  rw [roundOps]
  refine Chain.mono (Chain.app (words addi e1 h₀ h₁) (Chain.app (const _ e2) (Chain.app (spread bc e3 (by omega)) (Chain.app (words Host.shli e4 (by omega) (by omega))
    (Chain.app (const _ e5) (Chain.app (spread bc e6 (by omega)) (Chain.app (words Host.shrui e7 (by omega) (by omega))
      (Chain.app (words ori e8 (by omega) (by omega)) (words xori e9 (by omega) (by omega)))))))))) fun W h i => ?_
  obtain ⟨a1, a2, a3, a4, a5, a6, a7, a8, a9⟩ := h
  unfold wd
  rw [a9, a8, a7, a6, a5, a4, a3, a2, a1]
  have q1 : (BitVec.ofNat 32 k).toNat = k := by rw [BitVec.toNat_ofNat]; omega
  have q2 : (BitVec.ofNat 32 (32 - k)).toNat = 32 - k := by rw [BitVec.toNat_ofNat]; omega
  have p1 : k < 32 := k32
  have p2 : 32 - k < 32 := by omega
  simp only [rnd, addi, xori, ori, Host.shli, Host.shrui, hbc, constantI, IntOp.shli, IntOp.shrui, IntOp.addi, IntOp.xori, IntOp.ori, q1, q2, p1, p2, if_true,
    BitVec.shiftLeft_eq', BitVec.ushiftRight_eq']

/-- The buffers of an injection. -/
structure InjBufs (sig : RefSig) (S : Shape) where
  b₁ : VRef sig S
  z₀ : VRef sig S
  b₂ : VRef sig S
  u : VRef sig S
  c : KRef sig
  b₃ : VRef sig S
  z₁ : VRef sig S

def InjBufs.From (B : InjBufs sig S) (n : ℕ) : Prop :=
  num B.b₁.ref = n ∧ num B.z₀.ref = n + 1 ∧ num B.b₂.ref = n + 2 ∧ num B.u.ref = n + 3 ∧ num B.c.ref = n + 4 ∧ num B.b₃.ref = n + 5
    ∧ num B.z₁.ref = n + 6
instance (B : InjBufs sig S) (n : ℕ) : Decidable (B.From n) := by unfold InjBufs.From; infer_instance

def injOps (B : InjBufs sig S) (x₀ x₁ : VRef sig S) (k k' : KRef sig) (j : BitVec 32) : List (HloOp τ sig (Elt F)) :=
  [TRef.unary k B.b₁ bc] ++ ([TRef.binary x₀ B.b₁ B.z₀ addi] ++ ([TRef.unary k' B.b₂ bc] ++ ([TRef.binary x₁ B.b₂ B.u addi]
    ++ ([TRef.nullary B.c (constantI Z 32 j)] ++ ([TRef.unary B.c B.b₃ bc] ++ [TRef.binary B.u B.b₃ B.z₁ addi])))))

theorem inj_chain (hbc : ∀ v i, bc v i = v z0) (B : InjBufs sig S) (x₀ x₁ : VRef sig S) (k k' : KRef sig) (j : BitVec 32) {n : ℕ} (hB : B.From n)
    (h₀ : num x₀.ref < n) (h₁ : num x₁.ref < n) (hk : num k.ref < n) (hk' : num k'.ref < n) :
    Chain (injOps (τ := τ) (F := F) bc B x₀ x₁ k k' j) n (n + 7)
      (fun W => ∀ i, (wd W B.z₀ i, wd W B.z₁ i) = inj (sc W k) (sc W k' + j) (wd W x₀ i, wd W x₁ i)) := by
  obtain ⟨e1, e2, e3, e4, e5, e6, e7⟩ := hB
  rw [injOps]
  refine Chain.mono (Chain.app (spread bc e1 hk) (Chain.app (words addi e2 (by omega) (by omega)) (Chain.app (spread bc e3 (by omega)) (Chain.app (words addi e4 (by omega) (by omega))
    (Chain.app (const _ e5) (Chain.app (spread bc e6 (by omega)) (words addi e7 (by omega) (by omega)))))))) fun W h i => ?_
  obtain ⟨a1, a2, a3, a4, a5, a6, a7⟩ := h
  unfold wd sc
  rw [a7, a6, a5, a4, a3, a2, a1]
  simp only [inj, addi, hbc, constantI, IntOp.addi, BitVec.add_assoc]

/-- The buffers of four rounds and an injection. -/
structure GroupBufs (sig : RefSig) (S : Shape) where
  r₁ : RoundBufs sig S
  r₂ : RoundBufs sig S
  r₃ : RoundBufs sig S
  r₄ : RoundBufs sig S
  j : InjBufs sig S

def GroupBufs.From (B : GroupBufs sig S) (n : ℕ) : Prop :=
  B.r₁.From n ∧ B.r₂.From (n + 9) ∧ B.r₃.From (n + 18) ∧ B.r₄.From (n + 27) ∧ B.j.From (n + 36)
instance (B : GroupBufs sig S) (n : ℕ) : Decidable (B.From n) := by unfold GroupBufs.From; infer_instance

/-- The rotations of a group: even groups and odd ones differ. -/
def groupOps (B : GroupBufs sig S) (x₀ x₁ : VRef sig S) (k k' : KRef sig) (l₁ l₂ l₃ l₄ : ℕ) (j : BitVec 32) : List (HloOp τ sig (Elt F)) :=
  roundOps bc B.r₁ x₀ x₁ (BitVec.ofNat 32 l₁) (BitVec.ofNat 32 (32 - l₁))
    ++ (roundOps bc B.r₂ B.r₁.t B.r₁.y (BitVec.ofNat 32 l₂) (BitVec.ofNat 32 (32 - l₂))
      ++ (roundOps bc B.r₃ B.r₂.t B.r₂.y (BitVec.ofNat 32 l₃) (BitVec.ofNat 32 (32 - l₃))
        ++ (roundOps bc B.r₄ B.r₃.t B.r₃.y (BitVec.ofNat 32 l₄) (BitVec.ofNat 32 (32 - l₄))
          ++ injOps bc B.j B.r₄.t B.r₄.y k k' j)))

/-- Where a round's and an injection's results lie. -/
theorem RoundBufs.From.lt {B : RoundBufs sig S} {n : ℕ} (h : B.From n) : num B.t.ref < n + 9 ∧ num B.y.ref < n + 9 := by
  obtain ⟨e1, -, -, -, -, -, -, -, e9⟩ := h; omega
theorem InjBufs.From.lt {B : InjBufs sig S} {n : ℕ} (h : B.From n) : num B.z₀.ref < n + 7 ∧ num B.z₁.ref < n + 7 := by
  obtain ⟨-, e2, -, -, -, -, e7⟩ := h; omega

theorem group_chain (hbc : ∀ v i, bc v i = v z0) (B : GroupBufs sig S) (x₀ x₁ : VRef sig S) (k k' : KRef sig) (l₁ l₂ l₃ l₄ : ℕ) (j : BitVec 32)
    (hl : (0 < l₁ ∧ l₁ < 32) ∧ (0 < l₂ ∧ l₂ < 32) ∧ (0 < l₃ ∧ l₃ < 32) ∧ 0 < l₄ ∧ l₄ < 32) {n : ℕ} (hB : B.From n)
    (h₀ : num x₀.ref < n) (h₁ : num x₁.ref < n) (hk : num k.ref < n) (hk' : num k'.ref < n) :
    Chain (groupOps (τ := τ) (F := F) bc B x₀ x₁ k k' l₁ l₂ l₃ l₄ j) n (n + 43)
      (fun W => ∀ i, (wd W B.j.z₀ i, wd W B.j.z₁ i) = grp l₁ l₂ l₃ l₄ (sc W k) (sc W k' + j) (wd W x₀ i, wd W x₁ i)) := by
  obtain ⟨f1, f2, f3, f4, f5⟩ := hB
  obtain ⟨⟨a1, b1⟩, ⟨a2, b2⟩, ⟨a3, b3⟩, a4, b4⟩ := hl
  rw [groupOps]
  refine Chain.mono (Chain.app (round_chain bc hbc B.r₁ x₀ x₁ _ _ l₁ f1 h₀ h₁ ⟨a1, b1, rfl, rfl⟩)
    (Chain.app (round_chain bc hbc B.r₂ _ _ _ _ l₂ f2 f1.lt.1 f1.lt.2 ⟨a2, b2, rfl, rfl⟩)
      (Chain.app (round_chain bc hbc B.r₃ _ _ _ _ l₃ f3 f2.lt.1 f2.lt.2 ⟨a3, b3, rfl, rfl⟩)
        (Chain.app (round_chain bc hbc B.r₄ _ _ _ _ l₄ f4 f3.lt.1 f3.lt.2 ⟨a4, b4, rfl, rfl⟩)
          (inj_chain bc hbc B.j _ _ k k' j f5 f4.lt.1 f4.lt.2 (by omega) (by omega)))))) fun W h i => ?_
  obtain ⟨q1, q2, q3, q4, q5⟩ := h
  rw [q5, q4, q3, q2, q1, grp]

/-- The buffers of the whole cipher. -/
structure CipherBufs (sig : RefSig) (S : Shape) where
  x : KRef sig
  c : KRef sig
  k : KRef sig
  b₀ : VRef sig S
  y₀ : VRef sig S
  b₁ : VRef sig S
  y₁ : VRef sig S
  g₁ : GroupBufs sig S
  g₂ : GroupBufs sig S
  g₃ : GroupBufs sig S
  g₄ : GroupBufs sig S
  g₅ : GroupBufs sig S

def CipherBufs.From (B : CipherBufs sig S) (n : ℕ) : Prop :=
  (num B.x.ref = n ∧ num B.c.ref = n + 1 ∧ num B.k.ref = n + 2 ∧ num B.b₀.ref = n + 3 ∧ num B.y₀.ref = n + 4 ∧ num B.b₁.ref = n + 5
    ∧ num B.y₁.ref = n + 6) ∧ B.g₁.From (n + 7) ∧ B.g₂.From (n + 50) ∧ B.g₃.From (n + 93) ∧ B.g₄.From (n + 136) ∧ B.g₅.From (n + 179)
instance (B : CipherBufs sig S) (n : ℕ) : Decidable (B.From n) := by unfold CipherBufs.From; infer_instance

/-- The key's third word and the first injection. -/
def keyOps (B : CipherBufs sig S) (a₀ a₁ : KRef sig) (x₀ x₁ : VRef sig S) : List (HloOp τ sig (Elt F)) :=
  [TRef.binary a₀ a₁ B.x xori] ++ ([TRef.nullary B.c (constantI Z 32 466688986#32)] ++ ([TRef.binary B.x B.c B.k xori]
    ++ ([TRef.unary a₀ B.b₀ bc] ++ ([TRef.binary x₀ B.b₀ B.y₀ addi] ++ ([TRef.unary a₁ B.b₁ bc] ++ [TRef.binary x₁ B.b₁ B.y₁ addi])))))

theorem key_chain (hbc : ∀ v i, bc v i = v z0) (B : CipherBufs sig S) (a₀ a₁ : KRef sig) (x₀ x₁ : VRef sig S) {n : ℕ} (hB : B.From n)
    (h₀ : num x₀.ref < n) (h₁ : num x₁.ref < n) (hk : num a₀.ref < n) (hk' : num a₁.ref < n) :
    Chain (keyOps (τ := τ) (F := F) bc B a₀ a₁ x₀ x₁) n (n + 7)
      (fun W => sc W B.k = third (sc W a₀) (sc W a₁)
        ∧ ∀ i, (wd W B.y₀ i, wd W B.y₁ i) = inj (sc W a₀) (sc W a₁) (wd W x₀ i, wd W x₁ i)) := by
  obtain ⟨⟨e1, e2, e3, e4, e5, e6, e7⟩, -⟩ := hB
  rw [keyOps]
  refine Chain.mono (Chain.app (words xori e1 hk hk') (Chain.app (const _ e2) (Chain.app (words xori e3 (by omega) (by omega)) (Chain.app (spread bc e4 (by omega))
    (Chain.app (words addi e5 (by omega) (by omega)) (Chain.app (spread bc e6 (by omega)) (words addi e7 (by omega) (by omega)))))))) fun W h => ?_
  obtain ⟨a1, a2, a3, a4, a5, a6, a7⟩ := h
  refine ⟨?_, fun i => ?_⟩
  · unfold sc; rw [a3, a2, a1]; rfl
  · unfold wd sc; rw [a7, a6, a5, a4]; simp only [inj, addi, hbc, IntOp.addi]

def cipherOps (B : CipherBufs sig S) (a₀ a₁ : KRef sig) (x₀ x₁ : VRef sig S) : List (HloOp τ sig (Elt F)) :=
  keyOps bc B a₀ a₁ x₀ x₁ ++ (groupOps bc B.g₁ B.y₀ B.y₁ a₁ B.k 13 15 26 6 1#32 ++ (groupOps bc B.g₂ B.g₁.j.z₀ B.g₁.j.z₁ B.k a₀ 17 29 16 24 2#32
    ++ (groupOps bc B.g₃ B.g₂.j.z₀ B.g₂.j.z₁ a₀ a₁ 13 15 26 6 3#32 ++ (groupOps bc B.g₄ B.g₃.j.z₀ B.g₃.j.z₁ a₁ B.k 17 29 16 24 4#32
      ++ groupOps bc B.g₅ B.g₄.j.z₀ B.g₄.j.z₁ B.k a₀ 13 15 26 6 5#32))))

theorem GroupBufs.From.lt {B : GroupBufs sig S} {n : ℕ} (h : B.From n) : num B.j.z₀.ref < n + 43 ∧ num B.j.z₁.ref < n + 43 :=
  h.2.2.2.2.lt

/-- The line computes the cipher at every index. -/
theorem cipher_chain (hbc : ∀ v i, bc v i = v z0) (B : CipherBufs sig S) (a₀ a₁ : KRef sig) (x₀ x₁ : VRef sig S) {n : ℕ} (hB : B.From n)
    (h₀ : num x₀.ref < n) (h₁ : num x₁.ref < n) (hk : num a₀.ref < n) (hk' : num a₁.ref < n) :
    Chain (cipherOps (τ := τ) (F := F) bc B a₀ a₁ x₀ x₁) n (n + 222)
      (fun W => ∀ i, (wd W B.g₅.j.z₀ i, wd W B.g₅.j.z₁ i) = cipher (sc W a₀) (sc W a₁) (wd W x₀ i, wd W x₁ i)) := by
  obtain ⟨⟨e1, e2, e3, e4, e5, e6, e7⟩, f1, f2, f3, f4, f5⟩ := id hB
  rw [cipherOps]
  refine Chain.mono (Chain.app (key_chain bc hbc B a₀ a₁ x₀ x₁ hB h₀ h₁ hk hk')
    (Chain.app (group_chain bc hbc B.g₁ _ _ a₁ B.k 13 15 26 6 1#32 (by decide) f1 (by omega) (by omega) (by omega) (by omega))
    (Chain.app (group_chain bc hbc B.g₂ _ _ B.k a₀ 17 29 16 24 2#32 (by decide) f2 f1.lt.1 f1.lt.2 (by omega) (by omega))
    (Chain.app (group_chain bc hbc B.g₃ _ _ a₀ a₁ 13 15 26 6 3#32 (by decide) f3 f2.lt.1 f2.lt.2 (by omega) (by omega))
    (Chain.app (group_chain bc hbc B.g₄ _ _ a₁ B.k 17 29 16 24 4#32 (by decide) f4 f3.lt.1 f3.lt.2 (by omega) (by omega))
    (group_chain bc hbc B.g₅ _ _ B.k a₀ 13 15 26 6 5#32 (by decide) f5 f4.lt.1 f4.lt.2 (by omega) (by omega))))))) fun W h i => ?_
  obtain ⟨⟨qk, q0⟩, q1, q2, q3, q4, q5⟩ := h
  rw [q5, q4, q3, q2, q1, q0, qk, cipher]

end Cert.Proof.Chain

end
-- ==== Proof.Line.lean ====
module

public import proofs.«01_k».proof.ReferenceIdeal
public import proofs.«01_k».proof.Proof.Cipher
public import Idealize.ShloMosaic.Lib.StableHlo.Run

/-! # The reference's line of operations

The buffers of the reference's two cipher calls as `CipherBufs`, and its program as one line of operations (`line`). -/

@[expose] public section

set_option maxRecDepth 100000

noncomputable section

namespace Cert.Proof.Line

open Idealize.ShloMosaic Idealize.ShloMosaic.StableHlo Idealize.ShloMosaic.TcCoe Cert.Proof.Chain Cert.ReferenceIdeal
open Cert.ReferenceIdeal.Facts Cert.ReferenceIdeal.Facts₀

variable {F : FTy → Type} [FloatOps F] [Facts]

/-- The buffers of the call that makes the key. -/
@[reducible] def keyBufs (φ : fn_threefry2x32.Bufs) : CipherBufs sig S1 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The buffers of the call that makes the random words. -/
@[reducible] def drawBufs (φ : fn_threefry2x32_0.Bufs) : CipherBufs sig S128x100000 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

theorem key_body (a₀ a₁ : KRef sig) (x₀ x₁ : VRef sig S1) (φ : fn_threefry2x32.Bufs) :
    fn_threefry2x32.body (F := F) a₀ a₁ x₀ x₁ φ
      = seq (cipherOps (broadcastInDim S1 ![] bcast_S_S1 : (S_.Idx → BitVec 32) → S1.Idx → BitVec 32) (keyBufs φ) a₀ a₁ x₀ x₁) := by
  rfl

theorem draw_body (a₀ a₁ : KRef sig) (x₀ x₁ : VRef sig S128x100000) (φ : fn_threefry2x32_0.Bufs) :
    fn_threefry2x32_0.body (F := F) a₀ a₁ x₀ x₁ φ
      = seq (cipherOps (broadcastInDim S128x100000 ![] bcast_S_S128x100000 : (S_.Idx → BitVec 32) → S128x100000.Idx → BitVec 32) (drawBufs φ) a₀ a₁ x₀ x₁) := by
  rfl

/-- What comes before the call that makes the key. -/
def setKey : List (HloOp τ sig (Elt F)) :=
  [TRef.nullary (.of main_c) (constantI S_ 32 0#32),
   TRef.nullary (.of main_c_0) (constantI S_ 32 32#32),
   TRef.binary (.of main_c) (.of main_c_0) (.of main_v0) (Host.shrui),
   TRef.unary (.of main_v0) (.of main_v1) (id),
   TRef.unary (.of main_v1) (.of main_v2) (broadcastInDim S1 ![] bcast_S_S1),
   TRef.nullary (.of main_c_1) (constantI S_ 32 4294967295#32),
   TRef.binary (.of main_c) (.of main_c_1) (.of main_v3) (andi),
   TRef.unary (.of main_v3) (.of main_v4) (id),
   TRef.unary (.of main_v4) (.of main_v5) (broadcastInDim S1 ![] bcast_S_S1),
   TRef.binary (.of main_v2) (.of main_v5) (.of main_v6) ((fun a b => concatenate S2 0 [⟨S1, a⟩, ⟨S1, b⟩] concatenates_S1_S1_S2_d0)),
   TRef.nullary (.of main_c_2) (constantI S_ 32 1#32),
   TRef.nullary main_call0.c (constantI S_ 32 32#32),
   TRef.binary (.of main_c_2) main_call0.c main_call0.v0 Host.shrui,
   TRef.unary main_call0.v0 main_call0.v1 (broadcastInDim S1 ![] bcast_S_S1),
   TRef.nullary main_call0.c_0 (constantI S_ 32 4294967295#32),
   TRef.binary (.of main_c_2) main_call0.c_0 main_call0.v2 andi,
   TRef.unary main_call0.v2 main_call0.v3 (broadcastInDim S1 ![] bcast_S_S1),
   TRef.binary main_call0.v1 main_call0.v3 main_call0.v4 (fun a b => concatenate S2 0 [⟨S1, a⟩, ⟨S1, b⟩] concatenates_S1_S1_S2_d0),
   TRef.unary (.of main_v6 : TRef sig ⟨S2, .i32⟩) main_call0.v5 (extractStridedSlice S1 ![0] · slices_S2_S1_0),
   TRef.reshape main_call0.v5 main_call0.v6 rfl shapeCasts_S1_S_,
   TRef.unary (.of main_v6 : TRef sig ⟨S2, .i32⟩) main_call0.v7 (extractStridedSlice S1 ![1] · slices_S2_S1_1),
   TRef.reshape main_call0.v7 main_call0.v8 rfl shapeCasts_S1_S_,
   TRef.unary main_call0.v4 main_call0.v9 (extractStridedSlice S1 ![0] · slices_S2_S1_0),
   TRef.unary main_call0.v4 main_call0.v10 (extractStridedSlice S1 ![1] · slices_S2_S1_1)]

/-- What comes between the two calls. -/
def setDraw : List (HloOp τ sig (Elt F)) :=
  [TRef.binary main_call0.call0.v171 main_call0.call0.v175 main_call0.v12 (fun a b => concatenate S2 0 [⟨S1, a⟩, ⟨S1, b⟩] concatenates_S1_S1_S2_d0),
   TRef.nullary (.of main_cst) (constant S_ .f32 0x00000000#32),
   TRef.nullary (.of main_cst_3) (constant S_ .f32 0x3F800000#32),
   TRef.unary (.of main_cst) main_call1.v0 id,
   TRef.unary (.of main_cst_3) main_call1.v1 id,
   TRef.unary main_call1.v0 main_call1.v2 (broadcastInDim S1x1 ![] bcast_S_S1x1),
   TRef.unary main_call1.v1 main_call1.v3 (broadcastInDim S1x1 ![] bcast_S_S1x1),
   TRef.unary (.of main_v7 : TRef sig ⟨S2, .i32⟩) main_call1.v4 (extractStridedSlice S1 ![0] · slices_S2_S1_0),
   TRef.reshape main_call1.v4 main_call1.v5 rfl shapeCasts_S1_S_,
   TRef.unary (.of main_v7 : TRef sig ⟨S2, .i32⟩) main_call1.v6 (extractStridedSlice S1 ![1] · slices_S2_S1_1),
   TRef.reshape main_call1.v6 main_call1.v7 rfl shapeCasts_S1_S_,
   TRef.nullary main_call1.v8 (iotaInDim S128x100000 64 0),
   TRef.nullary main_call1.v9 (iotaInDim S128x100000 64 1),
   TRef.nullary main_call1.c (constantI S_ 64 100000#64),
   TRef.unary main_call1.c main_call1.v10 (broadcastInDim S128x100000 ![] bcast_S_S128x100000),
   TRef.binary main_call1.v10 main_call1.v8 main_call1.v11 muli,
   TRef.nullary main_call1.c_0 (constantI S_ 64 1#64),
   TRef.unary main_call1.c_0 main_call1.v12 (broadcastInDim S128x100000 ![] bcast_S_S128x100000),
   TRef.binary main_call1.v12 main_call1.v9 main_call1.v13 muli,
   TRef.binary main_call1.v11 main_call1.v13 main_call1.v14 addi,
   TRef.nullary main_call1.c_1 (constantI S_ 64 32#64),
   TRef.unary main_call1.c_1 main_call1.v15 (broadcastInDim S128x100000 ![] bcast_S_S128x100000),
   TRef.binary main_call1.v14 main_call1.v15 main_call1.v16 Host.shrui,
   TRef.unary main_call1.v14 main_call1.v17 (trunci 32 · natLt_32_64),
   TRef.unary main_call1.v16 main_call1.v18 (trunci 32 · natLt_32_64)]

/-- What comes after the call that makes the random words. -/
def finish : List (HloOp τ sig (Elt F)) :=
  [TRef.binary main_call1.call0.v171 main_call1.call0.v175 main_call1.v20 xori,
   TRef.nullary main_call1.c_2 (constantI S_ 32 9#32),
   TRef.unary main_call1.c_2 main_call1.v21 (broadcastInDim S128x100000 ![] bcast_S_S128x100000),
   TRef.binary main_call1.v20 main_call1.v21 main_call1.v22 Host.shrui,
   TRef.nullary main_call1.c_3 (constantI S_ 32 1065353216#32),
   TRef.unary main_call1.c_3 main_call1.v23 (broadcastInDim S128x100000 ![] bcast_S_S128x100000),
   TRef.binary main_call1.v22 main_call1.v23 main_call1.v24 ori,
   TRef.unary main_call1.v24 main_call1.v25 (bitcastToFloat .f32),
   TRef.nullary main_call1.cst (constant S_ .f32 0x3F800000#32),
   TRef.unary main_call1.cst main_call1.v26 (broadcastInDim S128x100000 ![] bcast_S_S128x100000),
   TRef.binary main_call1.v25 main_call1.v26 main_call1.v27 subf,
   TRef.binary main_call1.v3 main_call1.v2 main_call1.v28 subf,
   TRef.unary main_call1.v28 main_call1.v29 (broadcastInDim S128x100000 ![0, 1] bcast_S1x1_S128x100000_0_1),
   TRef.binary main_call1.v27 main_call1.v29 main_call1.v30 mulf,
   TRef.unary main_call1.v2 main_call1.v31 (broadcastInDim S128x100000 ![0, 1] bcast_S1x1_S128x100000_0_1),
   TRef.binary main_call1.v30 main_call1.v31 main_call1.v32 addf,
   TRef.unary main_call1.v2 main_call1.v33 (broadcastInDim S128x100000 ![0, 1] bcast_S1x1_S128x100000_0_1),
   TRef.binary main_call1.v33 main_call1.v32 main_call1.v34 maximumf,
   TRef.nullary (.of main_cst_4) (constant S_ .f32 0x00800000#32),
   TRef.unary (.of main_cst_4) (.of main_v9) (broadcastInDim S128x100000 ![] bcast_S_S128x100000),
   TRef.binary (.of main_v8) (.of main_v9) (.of main_v10) (maximumf),
   TRef.unary (.of main_v10) (.of main_v11) (Host.log),
   TRef.unary (.of main_v11) (.of main_v12) (Host.negf),
   TRef.unary (.of main_v12) (.of main_v13) (Host.log),
   TRef.unary (.of main_v13) (.of main_v14) (Host.negf),
   TRef.binary (.of main_arg0) (.of main_v14) (.of main_v15) (addf),
   TRef.nullary main_call2.v0 (iotaInDim S128x100000 32 1),
   TRef.nullary main_call2.cst (constant S_ .f32 0xFF800000#32),
   TRef.nullary main_call2.c (constantI S_ 32 0#32),
   TRef.quaternary (.of main_v15) main_call2.v0 main_call2.cst main_call2.c main_call2.v1_0 (fun x y u v j => (Host.argReduce reducer_argmax_f32_i32 x y u v reducesTo_S128x100000_S128_d1 h_S_ j).1),
   TRef.quaternary (.of main_v15) main_call2.v0 main_call2.cst main_call2.c main_call2.v1_1 (fun x y u v j => (Host.argReduce reducer_argmax_f32_i32 x y u v reducesTo_S128x100000_S128_d1 h_S_ j).2)]

/-- The whole program. -/
def line : List (HloOp τ sig (Elt F)) :=
  setKey ++ (cipherOps (broadcastInDim S1 ![] bcast_S_S1 : (S_.Idx → BitVec 32) → S1.Idx → BitVec 32) (keyBufs main_call0_call0)
      main_call0.v6 main_call0.v8 main_call0.v9 main_call0.v10
    ++ (setDraw ++ (cipherOps (broadcastInDim S128x100000 ![] bcast_S_S128x100000 : (S_.Idx → BitVec 32) → S128x100000.Idx → BitVec 32)
          (drawBufs main_call1_call0) main_call1.v5 main_call1.v7 main_call1.v18 main_call1.v17
      ++ finish)))

theorem main_eq (d : Dev nD) : main (F := F) d = seq line := by
  rfl

end Cert.Proof.Line

end
-- ==== Proof.Draw.lean ====
module

public import proofs.«01_k».proof.Proof.Line
public import Idealize.ShloMosaic.Lib.Pipeline.ValueKit.Tiles

/-! # What the reference's line of operations leaves

Every value of the reference's program before its last reduction, from the logits (`scores`), by the equations of its operations one
after another. -/

@[expose] public section

set_option maxRecDepth 100000

noncomputable section

namespace Cert.Proof.Line

open Idealize.ShloMosaic Idealize.ShloMosaic.StableHlo Idealize.ShloMosaic.TcCoe Cert.Proof.Chain Cert.ReferenceIdeal
open Cert.ReferenceIdeal.Facts Cert.ReferenceIdeal.Facts₀

variable {F : FTy → Type} [FloatOps F] [Facts]

/-! ## One operation of the line -/

section One
variable {s t r : Shape} {α β γ : EltTy} {n : ℕ}

theorem nul {y : TRef sig ⟨s, α⟩} (v : s.Idx → Elt F α) (hy : num y.ref = n) :
    Chain [(TRef.nullary y v : HloOp τ sig (Elt F))] n (n + 1) (fun W => (at' W y : s.Idx → Elt F α) = v) :=
  nullary (Val := Elt F) (Ty := ⟨s, α⟩) v hy
theorem un {x : TRef sig ⟨s, α⟩} {y : TRef sig ⟨t, β⟩} (f : (s.Idx → Elt F α) → t.Idx → Elt F β) (hy : num y.ref = n)
    (hx : num x.ref < n) :
    Chain [(TRef.unary x y f : HloOp τ sig (Elt F))] n (n + 1) (fun W => (at' W y : t.Idx → Elt F β) = f (at' W x)) :=
  unary (Val := Elt F) (Tx := ⟨s, α⟩) (Ty := ⟨t, β⟩) f hy hx
theorem bin {a : TRef sig ⟨s, α⟩} {b : TRef sig ⟨t, β⟩} {y : TRef sig ⟨r, γ⟩}
    (f : (s.Idx → Elt F α) → (t.Idx → Elt F β) → r.Idx → Elt F γ) (hy : num y.ref = n) (ha : num a.ref < n) (hb : num b.ref < n) :
    Chain [(TRef.binary a b y f : HloOp τ sig (Elt F))] n (n + 1) (fun W => (at' W y : r.Idx → Elt F γ) = f (at' W a) (at' W b)) :=
  binary (Val := Elt F) (Ta := ⟨s, α⟩) (Tb := ⟨t, β⟩) (Ty := ⟨r, γ⟩) f hy ha hb
end One

/-- The only index of a vector of one word. -/
def i0 : S1.Idx := fun a => ⟨0, by revert a; decide⟩

theorem idx_S1 (i : S1.Idx) : i = i0 := by
  funext a
  apply Fin.ext
  have h : (i a).val < 1 := by
    have := (i a).isLt
    have e : S1.size a = 1 := (by decide : ∀ a, S1.size a = 1) a
    omega
  show (i a).val = 0
  omega

/-- The first word of a pair of words, and the second. -/
theorem part0 (a b : S1.Idx → BitVec 32) :
    extractStridedSlice S1 ![0] (concatenate S2 0 [⟨S1, a⟩, ⟨S1, b⟩] concatenates_S1_S1_S2_d0) slices_S2_S1_0 i0 = a i0 :=
  concatenate_unit_eq 0 _ _ _ _ rfl ⟨fun _ _ i _ _ => congrArg a (idx_S1 i), fun hj => absurd hj (by show ¬ (0 + 0 : ℕ) = 0 + 1; decide), trivial⟩
theorem part1 (a b : S1.Idx → BitVec 32) :
    extractStridedSlice S1 ![1] (concatenate S2 0 [⟨S1, a⟩, ⟨S1, b⟩] concatenates_S1_S1_S2_d0) slices_S2_S1_1 i0 = b i0 :=
  concatenate_unit_eq 0 _ _ _ _ rfl ⟨fun hj => absurd hj (by show ¬ (1 + 0 : ℕ) = 0; decide), fun _ _ i _ _ => congrArg b (idx_S1 i), trivial⟩
theorem pick0 (a b : S1.Idx → BitVec 32) :
    shapeCast S_ (extractStridedSlice S1 ![0] (concatenate S2 0 [⟨S1, a⟩, ⟨S1, b⟩] concatenates_S1_S1_S2_d0) slices_S2_S1_0) shapeCasts_S1_S_ z0
      = a i0 := by
  unfold shapeCast
  exact (congrArg (extractStridedSlice S1 ![0] (concatenate S2 0 [⟨S1, a⟩, ⟨S1, b⟩] concatenates_S1_S1_S2_d0) slices_S2_S1_0) (idx_S1 _)).trans
    (part0 a b)
theorem pick1 (a b : S1.Idx → BitVec 32) :
    shapeCast S_ (extractStridedSlice S1 ![1] (concatenate S2 0 [⟨S1, a⟩, ⟨S1, b⟩] concatenates_S1_S1_S2_d0) slices_S2_S1_1) shapeCasts_S1_S_ z0
      = b i0 := by
  unfold shapeCast
  exact (congrArg (extractStridedSlice S1 ![1] (concatenate S2 0 [⟨S1, a⟩, ⟨S1, b⟩] concatenates_S1_S1_S2_d0) slices_S2_S1_1) (idx_S1 _)).trans
    (part1 a b)

/-! ## The key -/

theorem setKey_chain : Chain (setKey (F := F)) 1 25 (fun W => sc W main_call0.v6 = 0#32 ∧ sc W main_call0.v8 = 0#32
    ∧ wd W main_call0.v9 i0 = 0#32 ∧ wd W main_call0.v10 i0 = 1#32) := by
  rw [setKey]
  refine Chain.mono (Chain.cons (nul _ rfl) <| Chain.cons (nul _ rfl) <| Chain.cons (bin _ rfl (by decide) (by decide)) <|
    Chain.cons (un _ rfl (by decide)) <| Chain.cons (un _ rfl (by decide)) <| Chain.cons (nul _ rfl) <|
    Chain.cons (bin _ rfl (by decide) (by decide)) <| Chain.cons (un _ rfl (by decide)) <| Chain.cons (un _ rfl (by decide)) <|
    Chain.cons (bin _ rfl (by decide) (by decide)) <| Chain.cons (nul _ rfl) <| Chain.cons (nul _ rfl) <|
    Chain.cons (bin _ rfl (by decide) (by decide)) <| Chain.cons (un _ rfl (by decide)) <| Chain.cons (nul _ rfl) <|
    Chain.cons (bin _ rfl (by decide) (by decide)) <| Chain.cons (un _ rfl (by decide)) <|
    Chain.cons (bin _ rfl (by decide) (by decide)) <| Chain.cons (un _ rfl (by decide)) <|
    Chain.cons (reshape shapeCasts_S1_S_ rfl (by decide)) <| Chain.cons (un _ rfl (by decide)) <|
    Chain.cons (reshape shapeCasts_S1_S_ rfl (by decide)) <| Chain.cons (un _ rfl (by decide)) <| Chain.cons (un _ rfl (by decide)) <|
    Chain.nil 25) fun W h => ?_
  obtain ⟨e1, e2, e3, e4, e5, e6, e7, e8, e9, e10, e11, e12, e13, e14, e15, e16, e17, e18, e19, e20, e21, e22, e23, e24, -⟩ := h
  unfold sc wd
  rw [e24, e23, e22, e21, e20, e19, e18, e17, e16, e15, e14, e13, e12, e11, e10, e9, e8, e7, e6, e5, e4, e3, e2, e1]
  refine ⟨(pick0 _ _).trans ?_, (pick1 _ _).trans ?_, (part0 _ _).trans ?_, (part1 _ _).trans ?_⟩
  · show IntOp.shrui .host 0#32 32#32 = 0#32; decide
  · show IntOp.andi 0#32 4294967295#32 = 0#32; decide
  · show IntOp.shrui .host 1#32 32#32 = 0#32; decide
  · show IntOp.andi 1#32 4294967295#32 = 1#32; decide

/-! ## The counters -/

/-- An element's number, in row-major order. -/
def ctr (i : S128x100000.Idx) : ℕ := 100000 * (i 0).val + (i 1).val

theorem ctr_lt (i : S128x100000.Idx) : ctr i < 12800000 := by
  have h0 : (i 0).val < 128 := (i 0).isLt
  have h1 : (i 1).val < 100000 := (i 1).isLt
  unfold ctr; omega

/-- The constants `0` and `1` broadcast, as the uniform draw takes its bounds. -/
def lo (F : FTy → Type) [FloatOps F] [Facts] : S1x1.Idx → F .f32 := broadcastInDim S1x1 ![] bcast_S_S1x1 (constant S_ .f32 0x00000000#32)
def hi (F : FTy → Type) [FloatOps F] [Facts] : S1x1.Idx → F .f32 := broadcastInDim S1x1 ![] bcast_S_S1x1 (constant S_ .f32 0x3F800000#32)

/-- The 64-bit counter. -/
def ctr64 : S128x100000.Idx → BitVec 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

theorem ctr64_eq (i : S128x100000.Idx) : ctr64 i = BitVec.ofNat 64 (ctr i) := by
  show 100000#64 * BitVec.ofNat 64 (i 0).val + 1#64 * BitVec.ofNat 64 (i 1).val = _
  rw [BitVec.one_mul, ← BitVec.ofNat_mul, ← BitVec.ofNat_add]; rfl

theorem low_eq (i : S128x100000.Idx) : (trunci 32 ctr64 natLt_32_64 : S128x100000.Idx → BitVec 32) i = BitVec.ofNat 32 (ctr i) := by
  show (ctr64 i).truncate 32 = _
  rw [ctr64_eq]
  apply BitVec.eq_of_toNat_eq
  have := ctr_lt i
  simp only [BitVec.truncate_eq_setWidth, BitVec.toNat_setWidth, BitVec.toNat_ofNat]; omega

theorem high_eq (i : S128x100000.Idx) :
    (trunci 32 (Host.shrui ctr64 (broadcastInDim S128x100000 ![] bcast_S_S128x100000 (constantI S_ 64 32#64))) natLt_32_64 :
      S128x100000.Idx → BitVec 32) i = 0#32 := by
  show (IntOp.shrui .host (ctr64 i) 32#64).truncate 32 = _
  rw [ctr64_eq, IntOp.shrui, if_pos (by decide)]
  apply BitVec.eq_of_toNat_eq
  have := ctr_lt i
  have e : 32 % 2 ^ 64 = 32 := by decide
  simp only [BitVec.truncate_eq_setWidth, BitVec.toNat_setWidth, BitVec.ushiftRight_eq', BitVec.toNat_ushiftRight, BitVec.toNat_ofNat,
    Nat.shiftRight_eq_div_pow, e]
  omega

theorem setDraw_chain : Chain (setDraw (F := F)) 247 272 (fun W =>
    sc W main_call1.v5 = wd W main_call0.call0.v171 i0 ∧ sc W main_call1.v7 = wd W main_call0.call0.v175 i0
    ∧ (∀ i, wd W main_call1.v18 i = 0#32) ∧ (∀ i, wd W main_call1.v17 i = BitVec.ofNat 32 (ctr i))
    ∧ (at' W main_call1.v2 : S1x1.Idx → F .f32) = lo F ∧ (at' W main_call1.v3 : S1x1.Idx → F .f32) = hi F) := by
  rw [setDraw]
  refine Chain.mono (Chain.cons (bin _ rfl (by decide) (by decide)) <| Chain.cons (nul _ rfl) <| Chain.cons (nul _ rfl) <| Chain.cons (un _ rfl (by decide)) <|
    Chain.cons (un _ rfl (by decide)) <| Chain.cons (un _ rfl (by decide)) <| Chain.cons (un _ rfl (by decide)) <|
    Chain.cons (un _ rfl (by decide)) <| Chain.cons (reshape shapeCasts_S1_S_ rfl (by decide)) <| Chain.cons (un _ rfl (by decide)) <|
    Chain.cons (reshape shapeCasts_S1_S_ rfl (by decide)) <| Chain.cons (nul _ rfl) <| Chain.cons (nul _ rfl) <| Chain.cons (nul _ rfl) <|
    Chain.cons (un _ rfl (by decide)) <| Chain.cons (bin _ rfl (by decide) (by decide)) <| Chain.cons (nul _ rfl) <|
    Chain.cons (un _ rfl (by decide)) <| Chain.cons (bin _ rfl (by decide) (by decide)) <| Chain.cons (bin _ rfl (by decide) (by decide)) <|
    Chain.cons (nul _ rfl) <| Chain.cons (un _ rfl (by decide)) <| Chain.cons (bin _ rfl (by decide) (by decide)) <|
    Chain.cons (un _ rfl (by decide)) <| Chain.cons (un _ rfl (by decide)) <|
    Chain.nil 272) fun W h => ?_
  obtain ⟨e1, e2, e3, e4, e5, e6, e7, e8, e9, e10, e11, e12, e13, e14, e15, e16, e17, e18, e19, e20, e21, e22, e23, e24, e25, -⟩ := h
  unfold sc wd
  rw [e25, e24, e23, e22, e21, e20, e19, e18, e17, e16, e15, e14, e13, e12, e11, e10, e9, e8, e7, e6, e5, e4, e3, e2, e1]
  exact ⟨pick0 _ _, pick1 _ _, high_eq, low_eq, rfl, rfl⟩

/-! ## The scores -/

/-- The uniform number of a pair of random words, before the draw's scaling. -/
def frac (w₀ w₁ : S128x100000.Idx → BitVec 32) : FVec F S128x100000 .f32 :=
  subf (bitcastToFloat .f32 (ori (Host.shrui (xori w₀ w₁) (broadcastInDim S128x100000 ![] bcast_S_S128x100000 (constantI S_ 32 9#32)))
      (broadcastInDim S128x100000 ![] bcast_S_S128x100000 (constantI S_ 32 1065353216#32))))
    (broadcastInDim S128x100000 ![] bcast_S_S128x100000 (constant S_ .f32 0x3F800000#32))

/-- The uniform draw. -/
def draw (w₀ w₁ : S128x100000.Idx → BitVec 32) (l h : S1x1.Idx → F .f32) : FVec F S128x100000 .f32 :=
  maximumf (broadcastInDim S128x100000 ![0, 1] bcast_S1x1_S128x100000_0_1 l)
    (addf (mulf (frac w₀ w₁) (broadcastInDim S128x100000 ![0, 1] bcast_S1x1_S128x100000_0_1 (subf h l)))
      (broadcastInDim S128x100000 ![0, 1] bcast_S1x1_S128x100000_0_1 l))

/-- The logits with the Gumbel noise of the draw added. -/
def scores (x : FVec F S128x100000 .f32) (w₀ w₁ : S128x100000.Idx → BitVec 32) (l h : S1x1.Idx → F .f32) : FVec F S128x100000 .f32 :=
  addf x (Host.negf (Host.log (Host.negf (Host.log
    (maximumf (draw w₀ w₁ l h) (broadcastInDim S128x100000 ![] bcast_S_S128x100000 (constant S_ .f32 0x00800000#32)))))))

/-- The last reduction. -/
def best (y : FVec F S128x100000 .f32) : S128.Idx → BitVec 32 := fun j =>
  (Host.argReduce reducer_argmax_f32_i32 y (iotaInDim S128x100000 32 1) (constant S_ .f32 0xFF800000#32) (constantI S_ 32 0#32)
    reducesTo_S128x100000_S128_d1 h_S_ j).2

theorem finish_chain : Chain (finish (F := F)) 494 525 (fun W =>
    (at' W main_call2.v1_1 : S128.Idx → BitVec 32)
      = best (scores (at' W (.of main_arg0 : TRef sig ⟨S128x100000, .f32⟩)) (wd W main_call1.call0.v171) (wd W main_call1.call0.v175)
          (at' W main_call1.v2) (at' W main_call1.v3))) := by
  rw [finish]
  refine Chain.mono (Chain.cons (bin _ rfl (by decide) (by decide)) <| Chain.cons (nul _ rfl) <| Chain.cons (un _ rfl (by decide)) <|
    Chain.cons (bin _ rfl (by decide) (by decide)) <| Chain.cons (nul _ rfl) <| Chain.cons (un _ rfl (by decide)) <|
    Chain.cons (bin _ rfl (by decide) (by decide)) <| Chain.cons (un _ rfl (by decide)) <| Chain.cons (nul _ rfl) <|
    Chain.cons (un _ rfl (by decide)) <| Chain.cons (bin _ rfl (by decide) (by decide)) <| Chain.cons (bin _ rfl (by decide) (by decide)) <|
    Chain.cons (un _ rfl (by decide)) <| Chain.cons (bin _ rfl (by decide) (by decide)) <| Chain.cons (un _ rfl (by decide)) <|
    Chain.cons (bin _ rfl (by decide) (by decide)) <| Chain.cons (un _ rfl (by decide)) <| Chain.cons (bin _ rfl (by decide) (by decide)) <|
    Chain.cons (nul _ rfl) <| Chain.cons (un _ rfl (by decide)) <| Chain.cons (bin _ rfl (by decide) (by decide)) <|
    Chain.cons (un _ rfl (by decide)) <| Chain.cons (un _ rfl (by decide)) <| Chain.cons (un _ rfl (by decide)) <|
    Chain.cons (un _ rfl (by decide)) <| Chain.cons (bin _ rfl (by decide) (by decide)) <| Chain.cons (nul _ rfl) <| Chain.cons (nul _ rfl) <|
    Chain.cons (nul _ rfl) <|
    Chain.cons (quaternary (Val := Elt F) _ rfl (by decide) (by decide) (by decide) (by decide)) <|
    Chain.cons (quaternary (Val := Elt F) _ rfl (by decide) (by decide) (by decide) (by decide)) <| Chain.nil 525) fun W h => ?_
  obtain ⟨e1, e2, e3, e4, e5, e6, e7, e8, e9, e10, e11, e12, e13, e14, e15, e16, e17, e18, e19, e20, e21, e22, e23, e24, e25, e26, e27, e28, e29, -, e31, -⟩ := h
  unfold wd
  rw [e31, e29, e28, e27, e26, e25, e24, e23, e22, e21, e20, e19, e18, e17, e16, e15, e14, e13, e12, e11, e10, e9, e8, e7, e6, e5, e4, e3, e2, e1]
  rfl

/-! ## The whole line -/

/-- The key the reference folds, and the pair of random words of an element. -/
theorem cipher_key : cipher 0#32 0#32 (0#32, 1#32) = (928981903#32, 3453687069#32) := by decide +kernel

def bits (i : S128x100000.Idx) : Pair := cipher 928981903#32 3453687069#32 (0#32, BitVec.ofNat 32 (ctr i))

theorem spread_eq (v : S_.Idx → BitVec 32) (i : S128x100000.Idx) : broadcastInDim S128x100000 ![] bcast_S_S128x100000 v i = v z0 :=
  congrArg v (funext fun a => a.elim0)
theorem spread1_eq (v : S_.Idx → BitVec 32) (i : S1.Idx) : broadcastInDim S1 ![] bcast_S_S1 v i = v z0 :=
  congrArg v (funext fun a => a.elim0)

theorem line_chain : Chain (line (F := F)) 1 525 (fun W =>
    (at' W main_call2.v1_1 : S128.Idx → BitVec 32)
      = best (scores (at' W (.of main_arg0 : TRef sig ⟨S128x100000, .f32⟩)) (fun i => (bits i).1) (fun i => (bits i).2) (lo F) (hi F))) := by
  rw [line]
  refine Chain.mono (Chain.app setKey_chain <| Chain.app (cipher_chain _ spread1_eq (keyBufs main_call0_call0) _ _ _ _ (n := 25) (by decide) (by decide) (by decide) (by decide) (by decide)) <|
    Chain.app setDraw_chain <| Chain.app (cipher_chain _ spread_eq (drawBufs main_call1_call0) _ _ _ _ (n := 272) (by decide) (by decide) (by decide) (by decide) (by decide))
      finish_chain) fun W h => ?_
  obtain ⟨⟨a1, a2, a3, a4⟩, b, ⟨c1, c2, c3, c4, c5, c6⟩, d, e⟩ := h
  have b0 := b i0
  rw [a1, a2, a3, a4, cipher_key] at b0
  obtain ⟨b1, b2⟩ := Prod.mk.inj b0
  rw [c1, c2] at d
  have d' : ∀ i, (wd W main_call1.call0.v171 i, wd W main_call1.call0.v175 i) = bits i := fun i => by
    refine (d i).trans ?_
    rw [c3, c4]
    exact congrArg₂ (fun x y => cipher x y _) b1 b2
  have f1 : wd W main_call1.call0.v171 = fun i => (bits i).1 := funext fun i => congrArg Prod.fst (d' i)
  have f2 : wd W main_call1.call0.v175 = fun i => (bits i).2 := funext fun i => congrArg Prod.snd (d' i)
  rw [e, c5, c6, f1, f2]

end Cert.Proof.Line

end
-- ==== Proof.Ref.lean ====
module

public import proofs.«01_k».proof.Proof.Draw
public import proofs.«01_k».proof.Proof.Gen.ReferenceIdeal
public import Idealize.ShloMosaic.Lib.Quiescent

/-! # The reference's run

The reference runs, its argument ends unchanged, every semaphore ends at zero, and its result is the argmax of the scores
(`run`). -/

@[expose] public section

set_option maxRecDepth 100000

noncomputable section

namespace Cert.Proof.Line

open Idealize.ShloMosaic Idealize.ShloMosaic.StableHlo Idealize.ShloMosaic.TcCoe Cert.Proof.Chain Cert.ReferenceIdeal Idealize.SL.Sem

variable {F : FTy → Type} [FloatOps F]

/-- The logits plus their noise. -/
def total (x : FVec F S128x100000 .f32) : FVec F S128x100000 .f32 := scores x (fun i => (bits i).1) (fun i => (bits i).2) (lo F) (hi F)

theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v16) = best (total (m ((c.tc : Thread nD τ).loc main_arg0)))
        ∧ r.2.mem ((c.tc : Thread nD τ).loc main_arg0) = m ((c.tc : Thread nD τ).loc main_arg0)) ∧ r.2.sem = fun _ => 0) := by
  have hl := line_chain (F := F)
  refine (θ_run _ _ _).mono (fun r hr => ⟨fun c => ?_, ?_⟩)
    (run_seq (by decide) (by decide) defs (main (F := F)) (fun _ => line) main_eq
      (fun _ => List.forall_iff_forall_mem.2 fun op h => (hl.2.1 op h).1) m ρ (fun _ op h => (hl.2.1 op h).2))
  · obtain ⟨hb, he⟩ := hl.2.2 (launchContents m c)
    have h0 : after line (launchContents m c) (Proc.devRef .tc main_arg0) = m ((c.tc : Thread nD τ).loc main_arg0) := hb main_arg0 (by decide)
    refine ⟨?_, (hr c main_arg0).trans h0⟩
    rw [hr c main_v16]
    have := he _ (fun _ _ => rfl)
    refine Eq.trans (b := _) ?_ (this.trans ?_)
    · rfl
    · exact congrArg (fun x : FVec F S128x100000 .f32 => best (total x)) h0
  · exact sem_eq_zero_of_no_sems (by decide) r.2

end Cert.Proof.Line

end
-- ==== Proof.First.lean ====
module

public import Mathlib.Data.EReal.Basic
public import Mathlib.Data.Finset.Fold
public import Mathlib.Order.Lattice

/-! # The first column of the greatest value

A scan of some columns of a row keeps the greatest value and the first column that attains it (`Lead`): one more column
keeps that (`Lead.step`), and scans of columns that together make the row agree with the scan of the row
(`Lead.le`, `Lead.attained`, `Lead.least`). -/

@[expose] public section

noncomputable section

namespace Cert.Proof.First

variable {f : ℕ → EReal}

/-- The value `r.1` is the greatest of `f` on `S` and `r.2` the first column that attains it; zero if all are `-∞`. -/
def Lead (f : ℕ → EReal) (S : Set ℕ) (r : EReal × BitVec 32) : Prop :=
  (r = (⊥, 0#32) ∧ ∀ c ∈ S, f c = ⊥) ∨
    ∃ c ∈ S, r = (f c, BitVec.ofNat 32 c) ∧ ⊥ < f c ∧ (∀ d ∈ S, f d ≤ f c) ∧ ∀ d ∈ S, d < c → f d < f c

/-- One more column: a greater value is taken. -/
def take (r : EReal × BitVec 32) (v : EReal) (c : BitVec 32) : EReal × BitVec 32 := if r.1 < v then (v, c) else r

theorem Lead.nil : Lead f ∅ (⊥, 0#32) := Or.inl ⟨rfl, fun _ h => absurd h (Set.notMem_empty _)⟩

theorem Lead.step {S : Set ℕ} {r : EReal × BitVec 32} (h : Lead f S r) (e : ℕ) (he : ∀ c ∈ S, c < e) :
    Lead f (insert e S) (take r (f e) (BitVec.ofNat 32 e)) := by
  unfold take
  rcases h with ⟨rfl, hb⟩ | ⟨c, hc, rfl, h0, hle, hlt⟩
  · by_cases hv : (⊥ : EReal) < f e
    · rw [if_pos hv]
      refine Or.inr ⟨e, Set.mem_insert _ _, rfl, hv, ?_, ?_⟩
      · rintro d (rfl | hd)
        · exact le_rfl
        · rw [hb d hd]; exact bot_le
      · rintro d (rfl | hd) hde
        · exact absurd hde (lt_irrefl _)
        · rw [hb d hd]; exact hv
    · rw [if_neg hv]
      refine Or.inl ⟨rfl, ?_⟩
      rintro d (rfl | hd)
      · exact not_bot_lt_iff.mp hv
      · exact hb d hd
  · by_cases hv : f c < f e
    · rw [if_pos hv]
      refine Or.inr ⟨e, Set.mem_insert _ _, rfl, h0.trans hv, ?_, ?_⟩
      · rintro d (rfl | hd)
        · exact le_rfl
        · exact (hle d hd).trans hv.le
      · rintro d (rfl | hd) hde
        · exact absurd hde (lt_irrefl _)
        · exact (hle d hd).trans_lt hv
    · rw [if_neg hv]
      refine Or.inr ⟨c, Set.mem_insert_of_mem _ hc, rfl, h0, ?_, ?_⟩
      · rintro d (rfl | hd)
        · exact not_lt.mp hv
        · exact hle d hd
      · rintro d (rfl | hd) hde
        · exact absurd (he c hc) (by omega)
        · exact hlt d hd hde

theorem toInt_ofNat {c : ℕ} (h : c < 2 ^ 31) : (BitVec.ofNat 32 c).toInt = c := by
  rw [BitVec.toInt_eq_toNat_of_lt] <;> rw [BitVec.toNat_ofNat] <;> omega

/-- A tie with a later column leaves the column as it was. -/
theorem Lead.tie {S : Set ℕ} {r : EReal × BitVec 32} (h : Lead f S r) (e : ℕ) (he : ∀ c ∈ S, c < e) (hb : e < 2 ^ 31)
    (hv : r.1 = f e) : r.2.slt (BitVec.ofNat 32 e) = true ∨ r.2 = BitVec.ofNat 32 e := by
  rcases h with ⟨rfl, -⟩ | ⟨c, hc, rfl, -, -, -⟩
  · rcases Nat.eq_zero_or_pos e with rfl | hp
    · exact Or.inr rfl
    · left
      rw [BitVec.slt_iff_toInt_lt, toInt_ofNat hb]
      show (0 : ℤ) < e
      omega
  · left
    have := he c hc
    rw [BitVec.slt_iff_toInt_lt, toInt_ofNat hb, toInt_ofNat (by omega)]
    omega

section Gather

variable {N : ℕ} {ι : Type} {S : ι → Set ℕ} {r : ι → EReal × BitVec 32} {q : EReal × BitVec 32}
  (hq : Lead f {c | c < N} q) (hr : ∀ l, Lead f (S l) (r l)) (hS : ∀ l, ∀ c ∈ S l, c < N)

include hq hr hS

theorem Lead.le (l : ι) : (r l).1 ≤ q.1 := by
  rcases hr l with ⟨e, -⟩ | ⟨c', hc', e, h0', -, -⟩
  · rw [e]; exact bot_le
  · rw [e]
    rcases hq with ⟨-, hb⟩ | ⟨c, -, rfl, -, hle, -⟩
    · rw [hb c' (hS l c' hc')] at h0'; exact absurd h0' (lt_irrefl _)
    · exact hle c' (hS l c' hc')

/-- Some part's scan is the row's. -/
theorem Lead.attained [Nonempty ι] (hc : ∀ c < N, ∃ l, c ∈ S l) : ∃ l, r l = q := by
  rcases hq with ⟨rfl, hb⟩ | ⟨c, hcN, rfl, h0, hle, hlt⟩
  · obtain ⟨l⟩ := ‹Nonempty ι›
    refine ⟨l, ?_⟩
    rcases hr l with ⟨e, -⟩ | ⟨c', hc', -, h0', -, -⟩
    · exact e
    · rw [hb c' (hS l c' hc')] at h0'; exact absurd h0' (lt_irrefl _)
  · obtain ⟨l, hl⟩ := hc c hcN
    refine ⟨l, ?_⟩
    rcases hr l with ⟨-, hb⟩ | ⟨c', hc', e, h0', hle', hlt'⟩
    · rw [hb c hl] at h0; exact absurd h0 (lt_irrefl _)
    · have h1 := hle' c hl
      have h2 := hle c' (hS l c' hc')
      rcases lt_trichotomy c' c with h | h | h
      · exact absurd (hlt c' (hS l c' hc') h) (not_lt.mpr h1)
      · rw [e, h]
      · exact absurd (hlt' c hl h) (not_lt.mpr h2)

/-- No part that attains the row's greatest value has an earlier column. -/
theorem Lead.least (hN : N ≤ 2 ^ 31) (l : ι) (hv : (r l).1 = q.1) : q.2.toInt ≤ (r l).2.toInt := by
  rcases hq with ⟨rfl, hb⟩ | ⟨c, hcN, rfl, h0, hle, hlt⟩
  · rcases hr l with ⟨e, -⟩ | ⟨c', hc', -, h0', -, -⟩
    · rw [e]
    · rw [hb c' (hS l c' hc')] at h0'; exact absurd h0' (lt_irrefl _)
  · rcases hr l with ⟨e, -⟩ | ⟨c', hc', e, -, -, -⟩
    · rw [e] at hv; rw [show f c = ⊥ from hv.symm] at h0; exact absurd h0 (lt_irrefl _)
    · rw [e] at hv ⊢
      have hcN' : c < N := hcN
      have hc'N := hS l c' hc'
      show (BitVec.ofNat 32 c).toInt ≤ (BitVec.ofNat 32 c').toInt
      rw [toInt_ofNat (by omega), toInt_ofNat (by omega)]
      by_contra hn
      exact absurd (hlt c' hc'N (by omega)) (not_lt.mpr (le_of_eq hv.symm))

end Gather

/-- The fold of the maximum from `-∞`, given a value that bounds and is attained. -/
theorem fold_max {ι : Type} (S : Finset ι) (v : ι → EReal) (m : EReal) (hle : ∀ i ∈ S, v i ≤ m) (h : ∃ i ∈ S, v i = m) :
    S.fold max ⊥ v = m := by
  apply le_antisymm
  · exact (Finset.fold_max_le m).mpr ⟨bot_le, hle⟩
  · obtain ⟨i, hi, e⟩ := h
    exact (Finset.le_fold_max m).mpr (Or.inr ⟨i, hi, e.ge⟩)

/-- The fold of an operation that picks the lesser of two words, given a word that bounds and is attained. -/
theorem fold_min {ι : Type} (op : BitVec 32 → BitVec 32 → BitVec 32) [Std.Commutative op] [Std.Associative op]
    (hop : ∀ a b, op a b = if a.slt b then a else b) (S : Finset ι) (v : ι → BitVec 32) (b m : BitVec 32) (hb : m.toInt ≤ b.toInt)
    (hle : ∀ i ∈ S, m.toInt ≤ (v i).toInt) (h : ∃ i ∈ S, v i = m) : S.fold op b v = m := by
  classical
  have key : ∀ T : Finset ι, (∀ i ∈ T, m.toInt ≤ (v i).toInt) →
      m.toInt ≤ (T.fold op b v).toInt ∧ ∀ i ∈ T, (T.fold op b v).toInt ≤ (v i).toInt := by
    intro T
    induction T using Finset.induction_on with
    | empty => intro _; exact ⟨hb, fun i hi => absurd hi (Finset.notMem_empty _)⟩
    | insert a T ha ih =>
      intro hT
      obtain ⟨h1, h2⟩ := ih fun i hi => hT i (Finset.mem_insert_of_mem hi)
      have h3 := hT a (Finset.mem_insert_self _ _)
      rw [Finset.fold_insert ha, hop]
      by_cases hs : (v a).slt (T.fold op b v)
      · rw [if_pos hs]
        rw [BitVec.slt_iff_toInt_lt] at hs
        refine ⟨h3, fun i hi => ?_⟩
        rcases Finset.mem_insert.mp hi with rfl | hi
        · exact le_rfl
        · exact hs.le.trans (h2 i hi)
      · rw [if_neg hs]
        rw [BitVec.slt_iff_toInt_lt, not_lt] at hs
        refine ⟨h1, fun i hi => ?_⟩
        rcases Finset.mem_insert.mp hi with rfl | hi
        · exact hs
        · exact h2 i hi
  obtain ⟨h1, h2⟩ := key S hle
  obtain ⟨i, hi, e⟩ := h
  exact BitVec.eq_of_toInt_eq (le_antisymm ((h2 i hi).trans (by rw [e])) h1)

end Cert.Proof.First

end
-- ==== Proof.Word.lean ====
module

public import proofs.«01_k».proof.Proof.Cipher
public import proofs.«01_k».proof.Proof.Mix

/-! # The kernel's random word is the cipher's

At every lane the kernel's twenty rounds are those of the cipher at the key and the counter, the counter entering with
the second key word already added (`word_apply`). -/

@[expose] public section

noncomputable section

namespace Cert.Proof.Word

open Idealize.ShloMosaic Cert.Proof Cert.Proof.Chain

variable {s : Shape}

/-- A lane's two words. -/
def at2 (x : IVec s 32 × IVec s 32) (i : s.Idx) : Pair := (x.1 i, x.2 i)

theorem rot_apply (l r : BitVec 32) (hl : l.toNat < 32) (hr : r.toNat < 32) (x : IVec s 32) (i : s.Idx) :
    Mix.rot l r x i = (x i <<< l.toNat ||| x i >>> r.toNat) := by
  show IntOp.ori (IntOp.shli .vector (x i) l) (IntOp.shrui .vector (x i) r) = _
  unfold IntOp.shli IntOp.shrui
  rw [if_pos hl, if_pos hr]
  rfl

/-- A round at a lane. -/
theorem round_apply (l : ℕ) (hl : 0 < l ∧ l < 32) (x : IVec s 32 × IVec s 32) (i : s.Idx) :
    at2 (Mix.round (BitVec.ofNat 32 l) (BitVec.ofNat 32 (32 - l)) x) i = rnd l (at2 x i) := by
  have e : (BitVec.ofNat 32 l).toNat = l := by rw [BitVec.toNat_ofNat]; omega
  have e' : (BitVec.ofNat 32 (32 - l)).toNat = 32 - l := by rw [BitVec.toNat_ofNat]; omega
  show (x.1 i + x.2 i, Mix.rot _ _ x.2 i ^^^ (x.1 i + x.2 i)) = _
  rw [rot_apply _ _ (by omega) (by omega), e, e', BitVec.xor_comm]
  rfl

/-- An injection at a lane. -/
theorem inject_apply (k k' : BitVec 32) (x : IVec s 32 × IVec s 32) (i : s.Idx) :
    at2 (Mix.inject k k' x) i = inj k k' (at2 x i) := rfl

/-- The first round, of the counter `b` and the key. -/
theorem mix1_apply (n : IVec s 32) (i : s.Idx) (b : BitVec 32) (h : n i = b + 3453687069#32) :
    at2 (Mix.mix1 n) i = rnd 13 (inj 928981903#32 3453687069#32 (0#32, b)) := by
  have e : Mix.mix1 n = Mix.round (BitVec.ofNat 32 13) (BitVec.ofNat 32 (32 - 13)) (broadcast s 928981903#32, n) := by
    have : addi n (broadcast s 928981903#32) = addi (broadcast s 928981903#32) n := funext fun i => BitVec.add_comm _ _
    unfold Mix.mix1
    rw [this]
    rfl
  rw [e, round_apply 13 (by omega)]
  show rnd 13 (928981903#32, n i) = _
  rw [h]
  show _ = rnd 13 (0#32 + 928981903#32, b + 3453687069#32)
  rw [BitVec.zero_add]

theorem mix20_apply (n : IVec s 32) (i : s.Idx) (b : BitVec 32) (h : n i = b + 3453687069#32) :
    at2 (Mix.mix20 n) i = cipher 928981903#32 3453687069#32 (0#32, b) := by
  have r := fun l hl x => round_apply (s := s) l hl x i
  have h1 := mix1_apply n i b h
  have c : cipher 928981903#32 3453687069#32 (0#32, b) =
      grp 13 15 26 6 3780455752#32 928981908#32 (grp 17 29 16 24 3453687069#32 3780455756#32 (grp 13 15 26 6 928981903#32 3453687072#32
        (grp 17 29 16 24 3780455752#32 928981905#32 (grp 13 15 26 6 3453687069#32 3780455753#32 (inj 928981903#32 3453687069#32 (0#32, b)))))) := by
    rfl
  rw [c]
  unfold grp
  rw [← h1]
  simp only [← r _ (by omega : 0 < 13 ∧ 13 < 32), ← r _ (by omega : 0 < 15 ∧ 15 < 32), ← r _ (by omega : 0 < 26 ∧ 26 < 32),
    ← r _ (by omega : 0 < 6 ∧ 6 < 32), ← r _ (by omega : 0 < 17 ∧ 17 < 32), ← r _ (by omega : 0 < 29 ∧ 29 < 32),
    ← r _ (by omega : 0 < 16 ∧ 16 < 32), ← r _ (by omega : 0 < 24 ∧ 24 < 32), ← inject_apply]
  rfl

/-- The kernel's random word of the counter `b` is the cipher's: the two halves of the block `(0, b)`, combined by exclusive or. -/
theorem word_apply (n : IVec s 32) (i : s.Idx) (b : BitVec 32) (h : n i = b + 3453687069#32) :
    Mix.word n i = (cipher 928981903#32 3453687069#32 (0#32, b)).1 ^^^ (cipher 928981903#32 3453687069#32 (0#32, b)).2 := by
  rw [← mix20_apply n i b h]
  rfl

end Cert.Proof.Word

end
-- ==== Proof.Noise.lean ====
module

public import proofs.«01_k».proof.Proof.Word
public import proofs.«01_k».proof.Proof.Draw
public import proofs.«01_k».proof.Proof.Gen.ReferenceIdeal
public import proofs.«01_k».proof.Proof.Ref
public import Idealize.ShloMosaic.PureOps.Ideal
public import Mathlib.Tactic.NormNum

/-! # The noise, at the extended reals

The kernel's noise and the reference's are one function of the random word (`noise_apply`, `total_apply`). -/

@[expose] public section

noncomputable section

namespace Cert.Proof.Noise

open Idealize.ShloMosaic Cert.Proof Cert.Proof.Chain Cert.ReferenceIdeal

/-- The noise of a random word. -/
def gum (w : BitVec 32) : EReal :=
  -Ideal.log (-Ideal.log (max (Ideal.ofBits .f32 (w >>> 9 ||| 1065353216#32) - 1) (Ideal.ofBits .f32 0x00800000#32)))

theorem ofBits_one : Ideal.ofBits .f32 0x3F800000#32 = 1 := by simp [Ideal.ofBits, Ideal.ieee, -EReal.coe_mul]; norm_num
theorem ofBits_zero : Ideal.ofBits .f32 0x00000000#32 = 0 := by simp [Ideal.ofBits, Ideal.ieee]
theorem ofBits_bot : Ideal.ofBits .f32 0xFF800000#32 = ⊥ := by simp [Ideal.ofBits, Ideal.ieee]
theorem tiny_nonneg : (0 : EReal) ≤ Ideal.ofBits .f32 0x00800000#32 := by
  simp only [Ideal.ofBits, Ideal.ieee]
  simp [-EReal.coe_mul]
  try positivity

/-- The word's upper bits as a mantissa, as the kernel takes them and as the reference does. -/
def mant (w : BitVec 32) : BitVec 32 := w >>> 9 ||| 1065353216#32
theorem mant_kernel (w : BitVec 32) : IntOp.ori (IntOp.shrui .vector w 9#32) 1065353216#32 = mant w := by
  unfold IntOp.shrui
  rw [if_pos (by decide), BitVec.ushiftRight_eq']
  rfl
theorem mant_host (w : BitVec 32) : IntOp.ori (IntOp.shrui .host w 9#32) 1065353216#32 = mant w := by
  unfold IntOp.shrui
  rw [if_pos (by decide), BitVec.ushiftRight_eq']
  rfl

theorem gum_eq (w : BitVec 32) : gum w = -Ideal.log (-Ideal.log (max (Ideal.ofBits .f32 (mant w) - 1) (Ideal.ofBits .f32 0x00800000#32))) := rfl

section Scalars

attribute [local irreducible] Ideal.ofBits Ideal.log gum mant

/-- The kernel's operations on a word. -/
theorem gum_kernel {s : Shape} (w : IVec s 32) (i : s.Idx) :
    (subf (broadcast s (Scalar.ofBits .f32 0x00000000#32)) (log (subf (broadcast s (Scalar.ofBits .f32 0x00000000#32)) (log
      (maximumf (subf (bitcastToFloat .f32 (ori (shrui w (broadcast s 9#32)) (broadcast s 1065353216#32)))
        (broadcast s (Scalar.ofBits .f32 0x3F800000#32))) (broadcast s (Scalar.ofBits .f32 0x00800000#32)))))) : FVec Ideal s .f32) i = gum (w i) := by
  show Ideal.ofBits .f32 0x00000000#32 - Ideal.log (Ideal.ofBits .f32 0x00000000#32 - Ideal.log
    (max (Ideal.ofBits .f32 (IntOp.ori (IntOp.shrui .vector (w i) 9#32) 1065353216#32) - Ideal.ofBits .f32 0x3F800000#32)
      (Ideal.ofBits .f32 0x00800000#32))) = _
  rw [ofBits_zero, ofBits_one, zero_sub, zero_sub, mant_kernel, gum_eq]

/-- The reference's operations on a pair of words. -/
theorem gum_host (x : FVec Ideal S128x100000 .f32) (w₀ w₁ : S128x100000.Idx → BitVec 32) (i : S128x100000.Idx) :
    Line.scores x w₀ w₁ (Line.lo Ideal) (Line.hi Ideal) i = x i + gum (w₀ i ^^^ w₁ i) := by
  show x i + -Ideal.log (-Ideal.log (max (max (Ideal.ofBits .f32 0x00000000#32)
    ((Ideal.ofBits .f32 (IntOp.ori (IntOp.shrui .host (w₀ i ^^^ w₁ i) 9#32) 1065353216#32) - Ideal.ofBits .f32 0x3F800000#32)
      * (Ideal.ofBits .f32 0x3F800000#32 - Ideal.ofBits .f32 0x00000000#32) + Ideal.ofBits .f32 0x00000000#32)) (Ideal.ofBits .f32 0x00800000#32))) = _
  rw [ofBits_zero, ofBits_one, sub_zero, mul_one, add_zero, max_right_comm, max_eq_right tiny_nonneg, max_comm, mant_host, gum_eq]

end Scalars

/-- The kernel's, at a lane whose counter is `b`. -/
theorem noise_apply {s : Shape} (n : IVec s 32) (i : s.Idx) (b : BitVec 32) (h : n i = b + 3453687069#32) :
    (Mix.noise n : FVec Ideal s .f32) i
      = gum ((cipher 928981903#32 3453687069#32 (0#32, b)).1 ^^^ (cipher 928981903#32 3453687069#32 (0#32, b)).2) :=
  (gum_kernel (Mix.word n) i).trans (congrArg gum (Word.word_apply n i b h))

/-- The reference's scores, at an element. -/
theorem total_apply (x : FVec Ideal S128x100000 .f32) (i : S128x100000.Idx) :
    Line.total x i = x i + gum ((Line.bits i).1 ^^^ (Line.bits i).2) := gum_host x _ _ i

end Cert.Proof.Noise

end
-- ==== Proof.Best.lean ====
module

public import proofs.«01_k».proof.Proof.First
public import proofs.«01_k».proof.Proof.Noise
public import Idealize.ShloMosaic.PureOps.Ideal.Laws

/-! # The reference's argmax

At the extended reals the reference's last reduction gives the first column of each row's greatest score (`best_lead`). -/

@[expose] public section

noncomputable section

namespace Cert.Proof.Best

open Idealize.ShloMosaic Cert.Proof Cert.Proof.First Cert.ReferenceIdeal Cert.ReferenceIdeal.Facts Cert.ReferenceIdeal.Facts₀

/-- The element of row `r` and column `c`. -/
def cell (r : Fin 128) (c : ℕ) : S128x100000.Idx := fun a => match a with
  | ⟨0, _⟩ => r
  | ⟨1, _⟩ => (⟨c % 100000, Nat.mod_lt _ (by omega)⟩ : Fin 100000)

theorem cell_eq (i : S128x100000.Idx) (r : Fin 128) (c : ℕ) (h0 : (i 0).val = r.val) (h1 : (i 1).val = c) : cell r c = i := by
  have : (i 1).val < 100000 := (i 1).isLt
  funext a
  match a with
  | ⟨0, _⟩ => exact Fin.ext h0.symm
  | ⟨1, _⟩ => exact Fin.ext (show c % 100000 = (i 1).val by omega)

/-- The reducer's two results. -/
theorem reducer_eq (a b : EReal × BitVec 32) : reducer_argmax_f32_i32 (F := Ideal) a b =
    (if b.1 < a.1 then a.1 else b.1, if b.1 < a.1 ∨ (a.1 = b.1 ∧ a.2.slt b.2 = true) then a.2 else b.2) := by
  unfold reducer_argmax_f32_i32
  simp only [Ideal.cmpf_def, Ideal.cmp, IntOp.ori, IntOp.andi, IntOp.cmpi, Scalar.select]
  by_cases h1 : b.1 < a.1 <;> by_cases h2 : a.1 = b.1 <;> by_cases h3 : a.2.slt b.2 = true <;> simp [h1, h2, h3]

/-- Within a scan in order of columns the reducer takes a greater value and nothing else. -/
theorem reducer_take {f : ℕ → EReal} {S : Set ℕ} {r : EReal × BitVec 32} (h : Lead f S r) (e : ℕ) (he : ∀ c ∈ S, c < e) (hb : e < 2 ^ 31) :
    reducer_argmax_f32_i32 (F := Ideal) r (f e, BitVec.ofNat 32 e) = take r (f e) (BitVec.ofNat 32 e) := by
  rw [reducer_eq]
  unfold take
  by_cases hv : r.1 < f e
  · rw [if_pos hv, if_neg (not_lt.mpr hv.le), if_neg]
    rintro (h | h)
    · exact lt_asymm hv h
    · exact hv.ne h.1
  · rw [if_neg hv]
    rcases (not_lt.mp hv).lt_or_eq with h1 | h1
    · simp only [if_pos h1, h1, true_or, if_true]
    · have ht := h.tie e he hb h1.symm
      rw [h1]
      simp only [lt_irrefl, if_false, false_or, true_and]
      rcases ht with ht | ht
      · rw [if_pos ht]
      · rw [← ht]; simp only [ite_self]

/-- The columns of a list of positions. -/
def cols (L : List (Fin S128x100000.numel)) : Set ℕ := {c | ∃ n ∈ L, c = ((S128x100000.rowMajor.symm n) 1).val}

/-- A scan of positions in order keeps the first greatest column among those of row `r` it has met. -/
theorem foldl_lead (y : FVec Ideal S128x100000 .f32) (r : Fin 128) (L : List (Fin S128x100000.numel))
    (hL : ∀ n ∈ L, ((S128x100000.rowMajor.symm n) 0).val = r.val) (hs : L.Pairwise (· < ·)) :
    Lead (fun c => y (cell r c)) (cols L)
      ((L.map fun n => (y (S128x100000.rowMajor.symm n), iotaInDim S128x100000 32 1 (S128x100000.rowMajor.symm n))).foldl
        (reducer_argmax_f32_i32 (F := Ideal)) (⊥, 0#32)) := by
  rw [List.foldl_map]
  induction L using List.reverseRecOn with
  | nil =>
    have : cols [] = ∅ := Set.eq_empty_of_forall_notMem fun c ⟨n, hn, _⟩ => absurd hn (List.not_mem_nil)
    rw [this]
    exact Lead.nil
  | append_singleton L e ih =>
    rw [List.foldl_append]
    rw [List.pairwise_append] at hs
    have hi := ih (fun n hn => hL n (List.mem_append_left _ hn)) hs.1
    have he := hL e (List.mem_append_right _ (List.mem_singleton_self _))
    have hlt : ∀ c ∈ cols L, c < ((S128x100000.rowMajor.symm e) 1).val := by
      rintro c ⟨n, hn, rfl⟩
      have h1 : n < e := hs.2.2 n hn e (List.mem_singleton_self _)
      have h2 := hL n (List.mem_append_left _ hn)
      have r1 := Shape.rowMajor_val_two (S128x100000.rowMajor.symm n)
      have r2 := Shape.rowMajor_val_two (S128x100000.rowMajor.symm e)
      rw [Equiv.apply_symm_apply] at r1 r2
      have h3 : n.val < e.val := h1
      rw [r1, r2, he, h2] at h3
      exact Nat.lt_of_add_lt_add_left h3
    have hb : ((S128x100000.rowMajor.symm e) 1).val < 100000 := ((S128x100000.rowMajor.symm e) 1).isLt
    have hc : cols (L ++ [e]) = insert ((S128x100000.rowMajor.symm e) 1).val (cols L) := by
      ext c
      constructor
      · rintro ⟨n, hn, rfl⟩
        rcases List.mem_append.mp hn with hn | hn
        · exact Or.inr ⟨n, hn, rfl⟩
        · rw [List.mem_singleton.mp hn]; exact Or.inl rfl
      · rintro (rfl | ⟨n, hn, rfl⟩)
        · exact ⟨e, List.mem_append_right _ (List.mem_singleton_self _), rfl⟩
        · exact ⟨n, List.mem_append_left _ hn, rfl⟩
    rw [hc]
    have hst := Lead.step hi _ hlt
    rw [← reducer_take hi _ hlt (by omega)] at hst
    have hcell := cell_eq (S128x100000.rowMajor.symm e) r _ he rfl
    simp only [hcell] at hst
    exact hst

theorem drop_iff (j : S128.Idx) (i : S128x100000.Idx) : reducesTo_S128x100000_S128_d1.drop i = j ↔ (i 0).val = (j 0).val := by
  constructor
  · intro h
    rw [← h]
    exact (reducesTo_S128x100000_S128_d1.drop_apply_val_of_eq i 0 0).symm
  · intro h
    funext a
    apply Fin.ext
    have : a = 0 := Subsingleton.elim (α := Fin 1) _ _
    subst this
    exact (reducesTo_S128x100000_S128_d1.drop_apply_val_of_eq i 0 0).trans h

/-- A list of positions with every one of row `r` has every column. -/
theorem cols_eq (r : Fin 128) (L : List (Fin S128x100000.numel)) (h : ∀ n, ((S128x100000.rowMajor.symm n) 0).val = r.val → n ∈ L) :
    cols L = {c | c < 100000} := by
  ext c
  constructor
  · rintro ⟨n, -, rfl⟩
    exact ((S128x100000.rowMajor.symm n) 1).isLt
  · intro hlt
    have hlt : c < 100000 := hlt
    refine ⟨S128x100000.rowMajor (cell r c), h _ ?_, ?_⟩
    · rw [Equiv.symm_apply_apply]; rfl
    · rw [Equiv.symm_apply_apply]
      exact (Nat.mod_eq_of_lt hlt).symm

/-- The scan over a row's positions keeps the row's first greatest column. -/
theorem fiber_lead (y : FVec Ideal S128x100000 .f32) (j : S128.Idx) :
    Lead (fun c => y (cell (j 0) c)) {c | c < 100000}
      ((Host.argReduceFiber y (iotaInDim S128x100000 32 1) reducesTo_S128x100000_S128_d1 j).foldl (reducer_argmax_f32_i32 (F := Ideal)) (⊥, 0#32)) := by
  unfold Host.argReduceFiber
  have hm : ∀ n, n ∈ (List.finRange S128x100000.numel).filter (fun n => reducesTo_S128x100000_S128_d1.drop (S128x100000.rowMajor.symm n) = j)
      ↔ ((S128x100000.rowMajor.symm n) 0).val = (j 0).val := by
    intro n
    rw [List.mem_filter, decide_eq_true_iff, drop_iff]
    exact ⟨fun h => h.2, fun h => ⟨List.mem_finRange _, h⟩⟩
  have hp : ((List.finRange S128x100000.numel).filter (fun n => reducesTo_S128x100000_S128_d1.drop (S128x100000.rowMajor.symm n) = j)).Pairwise (· < ·) :=
    (List.pairwise_lt_finRange _).filter _
  generalize (List.finRange S128x100000.numel).filter (fun n => reducesTo_S128x100000_S128_d1.drop (S128x100000.rowMajor.symm n) = j) = L at hm hp ⊢
  rw [← cols_eq (j 0) L fun n h => (hm n).mpr h]
  exact foldl_lead y (j 0) L (fun n hn => (hm n).mp hn) hp

/-- Off the not-a-numbers, of which the extended reals have none, the reduction is a fold of the row's pairs. -/
theorem fold_eq {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel)
    (hx : ix (Shape.Idx.first hu) = (⊥ : EReal)) (hy : iy (Shape.Idx.first hu) = 0#32) :
    (fun j => (Host.argReduce f x y ix iy h hu j).2) = fun j => ((Host.argReduceFiber x y h j).foldl f ((⊥ : EReal), 0#32)).2 := by
  funext j
  rw [Ideal.argReduce_eq_reduce2, Host.reduce2_eq_foldl_fiber, hx, hy]

/-- The reference's result, as the scan over each row's positions. -/
theorem best_eq (y : FVec Ideal S128x100000 .f32) : Line.best y = fun j =>
    ((Host.argReduceFiber y (iotaInDim S128x100000 32 1) reducesTo_S128x100000_S128_d1 j).foldl (reducer_argmax_f32_i32 (F := Ideal)) (⊥, 0#32)).2 := fold_eq (reducer_argmax_f32_i32 (F := Ideal)) y (iotaInDim S128x100000 32 1) (constant S_ .f32 0xFF800000#32) (constantI S_ 32 0#32) reducesTo_S128x100000_S128_d1 h_S_ Noise.ofBits_bot rfl

/-- The reference's result of a row is the first column of its greatest value. -/
theorem best_lead (y : FVec Ideal S128x100000 .f32) (j : S128.Idx) :
    ∃ q, Lead (fun c => y (cell (j 0) c)) {c | c < 100000} q ∧ Line.best y j = q.2 :=
  ⟨_, fiber_lead y j, congrFun (best_eq y) j⟩

end Cert.Proof.Best

end
-- ==== Proof.Lane.lean ====
module

public import proofs.«01_k».proof.Proof.Wire
public import proofs.«01_k».proof.Proof.Best

/-! # The kernel's argmax

At the extended reals a trip's scan keeps, in every lane, the greatest score of the lane's columns and the first column that
attains it (`scan_lead`), and what a trip stores of its lanes is the first column of the row's greatest score (`pick_eq`). -/

@[expose] public section

noncomputable section

namespace Cert.KernelIdeal.Gen

open Idealize.ShloMosaic Idealize.ShloMosaic.TcCoe Cert.Proof Cert.Proof.First Cert.Proof.Mix

/-! ## The lanes -/

/-- The lane of row `r` and number `l`. -/
def zix (r : Fin 8) (l : Fin 1024) : Z.Idx := fun a => match a with
  | ⟨0, _⟩ => r
  | ⟨1, _⟩ => l
theorem zix_self (i : Z.Idx) : zix (i 0) (i 1) = i := by
  funext a
  match a with
  | ⟨0, _⟩ => rfl
  | ⟨1, _⟩ => rfl

/-- The columns lane `l` meets in chunks `0`, …, `k - 1`. -/
def met (l k : ℕ) : Set ℕ := {c | ∃ j < k, c = start j + l}

theorem met_zero (l : ℕ) : met l 0 = ∅ := Set.eq_empty_of_forall_notMem fun _ ⟨_, hj, _⟩ => absurd hj (Nat.not_lt_zero _)
theorem met_succ (l k : ℕ) : met l (k + 1) = insert (start k + l) (met l k) := by
  ext c
  constructor
  · rintro ⟨j, hj, rfl⟩
    rcases Nat.lt_succ_iff_lt_or_eq.mp hj with h | rfl
    · exact Or.inr ⟨j, h, rfl⟩
    · exact Or.inl rfl
  · rintro (rfl | ⟨j, hj, rfl⟩)
    · exact ⟨k, Nat.lt_succ_self k, rfl⟩
    · exact ⟨j, Nat.lt_succ_of_lt hj, rfl⟩
theorem met_lt (l k : ℕ) (hk : k < 98) : ∀ c ∈ met l k, c < start k + l := by
  rintro c ⟨j, hj, rfl⟩
  unfold start
  omega
theorem met_bound (l : Fin 1024) : ∀ c ∈ met l 98, c < 100000 := by
  rintro c ⟨j, hj, rfl⟩
  have := l.isLt
  unfold start
  omega
/-- Every column is in some chunk. -/
theorem met_cover (c : ℕ) (hc : c < 100000) : ∃ l : Fin 1024, c ∈ met l 98 := by
  by_cases h : c < 98976
  · exact ⟨⟨c % 1024, Nat.mod_lt _ (by omega)⟩, c / 1024, by omega, by show c = min (1024 * (c / 1024)) 98976 + c % 1024; omega⟩
  · exact ⟨⟨c - 98976, by omega⟩, 97, by omega, by show c = min (1024 * 97) 98976 + (c - 98976); omega⟩

/-! ## A scan -/

/-- A chunk's update, at a lane. -/
theorem upd_apply (n col : IVec Z 32) (st : FVec Ideal Z .f32 × IVec Z 32) (x : FVec Ideal Z .f32) (i : Z.Idx) :
    ((upd n col st x).1 i, (upd n col st x).2 i) = take (st.1 i, st.2 i) (addf x (noise n) i) (col i) := by
  unfold upd
  generalize addf x (noise n) = v
  show (max (st.1 i) (v i), Scalar.select (Ideal.cmp .ogt (v i) (st.1 i)) (col i) (st.2 i)) = _
  unfold take Scalar.select Ideal.cmp
  by_cases h : st.1 i < v i
  · rw [max_eq_right h.le]; simp [h]
  · rw [max_eq_left (not_lt.mp h)]; simp [h]

/-- After 98 chunks a lane holds the first greatest among the columns it has met. -/
theorem scan_lead (x : Vec Ideal S8x100000 .f32) (v3 v4 : IVec Z 32) (v23 : BitVec 32) (i : Z.Idx) (f : ℕ → EReal)
    (hcol : ∀ j < 98, col v3 j i = BitVec.ofNat 32 (start j + (i 1).val))
    (hval : ∀ j < 98, (addf (chunk x j) (noise (cnt v4 v23 j)) : FVec Ideal Z .f32) i = f (start j + (i 1).val)) (n : ℕ) :
    ∀ (j : ℕ) (st : FVec Ideal Z .f32 × IVec Z 32), j + n ≤ 98 → Lead f (met (i 1).val j) (st.1 i, st.2 i) →
      Lead f (met (i 1).val (j + n)) ((scanVal x v3 v4 v23 j n st).1 i, (scanVal x v3 v4 v23 j n st).2 i) := by
  induction n with
  | zero => intro j st _ h; exact h
  | succ n ih =>
    intro j st hj h
    have hs := Lead.step h (start j + (i 1).val) (met_lt _ j (by omega))
    rw [← hcol j (by omega), ← hval j (by omega), ← upd_apply, ← met_succ] at hs
    have := ih (j + 1) _ (by omega) hs
    rw [show j + 1 + n = j + (n + 1) from by omega] at this
    exact this

/-! ## What a trip stores of its lanes -/

/-- The only index of a row's maximum. -/
def ix8 (r : Fin 8) : S8.Idx := fun a => match a with
  | ⟨0, _⟩ => r

theorem reshape_ix81 (h' : S8x1.numel = S8.numel) (r : Fin 8) : Shape.reshapeEquiv h' (ix81 r) = ix8 r := by
  apply Shape.reshapeEquiv_eq_of_rowMajor
  have e1 := Shape.rowMajor_val_one (ix8 r)
  have e2 := Shape.rowMajor_val_two (ix81 r)
  rw [e1, e2]
  show r.val = r.val * 1 + 0
  omega

theorem drop_iff (i : Z.Idx) (r : Fin 8) : reduces_S8x1024_S8.drop i = ix8 r ↔ i 0 = r := by
  constructor
  · intro h
    apply Fin.ext
    have := reduces_S8x1024_S8.drop_apply_val_of_eq i 0 0
    rw [h] at this
    exact this.symm
  · rintro rfl
    funext a
    apply Fin.ext
    have : a = 0 := Subsingleton.elim (α := Fin 1) _ _
    subst this
    exact reduces_S8x1024_S8.drop_apply_val_of_eq i 0 0

theorem spread_apply {α : Type} (v : S8x1.Idx → α) (i : Z.Idx) : broadcastTo S8x1024 v broadcasts_S8x1_S8x1024 i = v (ix81 (i 0)) := by
  unfold broadcastTo
  congr 1
  funext a
  match a with
  | ⟨0, _⟩ => rfl
  | ⟨1, _⟩ => rfl

/-- The row's maximum over its lanes, given a value that bounds and is attained. -/
theorem rowmax_eq (v : FVec Ideal Z .f32) (r : Fin 8) (m : EReal) (hle : ∀ l, v (zix r l) ≤ m) (h : ∃ l, v (zix r l) = m) :
    multiReduction .maximumf [1] S8 v 0xFF800000#32 reduces_S8x1024_S8 (.inl rfl) rfl (ix8 r) = m := by
  refine (multiReduction_maximumf_eq_fold (F := Ideal) v _ _ _ _ _).trans ?_
  refine (congrArg (fun b : EReal => Finset.fold max b v _) Noise.ofBits_bot).trans ?_
  refine fold_max _ v m (fun i hi => ?_) ?_
  · have hi := (drop_iff i r).mp (Finset.mem_filter.mp hi).2
    rw [← zix_self i, hi]
    exact hle _
  · obtain ⟨l, hl⟩ := h
    exact ⟨zix r l, Finset.mem_filter.mpr ⟨Finset.mem_univ _, (drop_iff _ r).mpr rfl⟩, hl⟩

/-- The row's minimum over its lanes, given a word that bounds and is attained. -/
theorem rowmin_eq (w : IVec Z 32) (r : Fin 8) (m : BitVec 32) (hle : ∀ l, m.toInt ≤ (w (zix r l)).toInt) (h : ∃ l, w (zix r l) = m) :
    multiReductionI .minsi [1] S8 w 2147483647#32 reduces_S8x1024_S8 rfl (ix8 r) = m := by
  refine (multiReductionI_eq_fold .minsi w _ _ _ _).trans ?_
  refine fold_min IKind.minsi.op (fun _ _ => rfl) _ w _ m ?_ (fun i hi => ?_) ?_
  · have := BitVec.toInt_lt (x := m)
    show m.toInt ≤ (2147483647 : ℤ)
    omega
  · have hi := (drop_iff i r).mp (Finset.mem_filter.mp hi).2
    rw [← zix_self i, hi]
    exact hle _
  · obtain ⟨l, hl⟩ := h
    exact ⟨zix r l, Finset.mem_filter.mpr ⟨Finset.mem_univ _, (drop_iff _ r).mpr rfl⟩, hl⟩

/-- The least column among the lanes that hold the row's maximum is the row's first greatest column. -/
theorem pick_eq (st : FVec Ideal Z .f32 × IVec Z 32) (r : Fin 8) (q : EReal × BitVec 32) (hle : ∀ l, st.1 (zix r l) ≤ q.1)
    (hat : ∃ l, (st.1 (zix r l), st.2 (zix r l)) = q) (hmin : ∀ l, st.1 (zix r l) = q.1 → q.2.toInt ≤ (st.2 (zix r l)).toInt) :
    pick st (ix81 r) = q.2 := by
  obtain ⟨l, hl⟩ := hat
  have h1 : st.1 (zix r l) = q.1 := congrArg Prod.fst hl
  have h2 : st.2 (zix r l) = q.2 := congrArg Prod.snd hl
  have hm := rowmax_eq st.1 r q.1 hle ⟨l, h1⟩
  unfold pick k0_pay2
  generalize multiReduction .maximumf [1] S8 st.1 0xFF800000#32 reduces_S8x1024_S8 (.inl rfl) rfl = M at hm
  have hs : ∀ k, (select (cmpf .oeq st.1 (broadcastTo S8x1024 (shapeCast S8x1 M shapeCasts_S8_S8x1) broadcasts_S8x1_S8x1024)) st.2
      (broadcast S8x1024 2147483647#32)) (zix r k) = if st.1 (zix r k) = q.1 then st.2 (zix r k) else 2147483647#32 := by
    intro k
    show Scalar.select (Ideal.cmp .oeq (st.1 (zix r k)) (broadcastTo S8x1024 (shapeCast S8x1 M shapeCasts_S8_S8x1) broadcasts_S8x1_S8x1024 (zix r k))) _ _ = _
    rw [spread_apply]
    have : shapeCast S8x1 M shapeCasts_S8_S8x1 (ix81 (zix r k 0)) = q.1 := by
      unfold shapeCast
      exact (congrArg M (reshape_ix81 _ r)).trans hm
    rw [this]
    unfold Scalar.select Ideal.cmp
    by_cases h : st.1 (zix r k) = q.1 <;> simp [h, broadcast]
  unfold shapeCast at hs ⊢
  refine (congrArg (multiReductionI .minsi [1] S8 _ 2147483647#32 reduces_S8x1024_S8 rfl) (reshape_ix81 _ r)).trans ?_
  refine rowmin_eq _ r q.2 (fun k => ?_) ⟨l, ?_⟩
  · refine le_of_le_of_eq ?_ (congrArg BitVec.toInt (hs k).symm)
    by_cases h : st.1 (zix r k) = q.1
    · rw [if_pos h]; exact hmin k h
    · rw [if_neg h]
      have := BitVec.toInt_lt (x := q.2)
      show q.2.toInt ≤ (2147483647 : ℤ)
      omega
  · refine (hs l).trans ?_
    rw [if_pos h1, h2]

end Cert.KernelIdeal.Gen

end
-- ==== Proof.Value.lean ====
module

public import proofs.«01_k».proof.Proof.Lane

/-! # The kernel's value

At the extended reals the 128 results of the kernel are the reference's argmax of the reference's scores (`value_eq`). -/

@[expose] public section

noncomputable section

namespace Cert.KernelIdeal.Gen

open Idealize.ShloMosaic Idealize.ShloMosaic.TcCoe Cert.Proof Cert.Proof.First Cert.Proof.Mix Cert.Proof.Best
open Idealize.ShloMosaic.Rounds

variable (c : Dev nD) (X : Buf (Elt Ideal) (aM.view.loc (c : Thread nD τ)))

/-- A slab's element. -/
theorem payload_apply (b : Fin 16) (y : S8x100000.Idx) (r : Fin 128) (k : ℕ) (h0 : r.val = 8 * b.val + (y 0).val) (h1 : (y 1).val = k) :
    payload c X b y = (X : S128x100000.Idx → EReal) (cell r k) := by
  refine congrArg (X : S128x100000.Idx → EReal) (cell_eq _ r k ?_ ?_).symm
  · show 8 * b.val + 1 * (y 0).val = r.val
    omega
  · show 0 + 1 * (y 1).val = k
    omega

/-- A lane's column. -/
theorem col_apply (j : ℕ) (i : Z.Idx) : col v3K j i = BitVec.ofNat 32 (start j + (i 1).val) := by
  show BitVec.ofNat 32 (0 * 1024 + (i 1).val) + BitVec.ofNat 32 (start j) = _
  rw [← BitVec.ofNat_add, Nat.zero_mul, Nat.zero_add, Nat.add_comm]

/-- The words a counter is added up from. -/
theorem words_eq (a b d t : ℕ) : BitVec.ofNat 32 a * 100000#32 + BitVec.ofNat 32 b + (BitVec.ofNat 32 t * 800000#32 + 3453687069#32 + BitVec.ofNat 32 d)
    = BitVec.ofNat 32 (100000 * (8 * t + a) + (d + b)) + 3453687069#32 := by
  have e : 100000 * (8 * t + a) + (d + b) = a * 100000 + b + (t * 800000 + d) := by omega
  rw [e, BitVec.ofNat_add, BitVec.ofNat_add, BitVec.ofNat_add, BitVec.ofNat_mul, BitVec.ofNat_mul]
  generalize BitVec.ofNat 32 a * 100000#32 = A
  generalize BitVec.ofNat 32 b = B
  generalize BitVec.ofNat 32 t * 800000#32 = T
  generalize BitVec.ofNat 32 d = D
  generalize 3453687069#32 = K
  ac_rfl

theorem pay1_apply (i : Z.Idx) : k0_pay1 i = BitVec.ofNat 32 (i 0).val * 100000#32 + BitVec.ofNat 32 (i 1).val := by
  have e0 : iota .tc S8x1024 32 [0] iota_S8x1024_d0_w32 i = BitVec.ofNat 32 (i 0).val := congrArg (BitVec.ofNat 32) (Nat.zero_add _)
  have e1 : iota .tc S8x1024 32 [1] iota_S8x1024_d1_w32 i = BitVec.ofNat 32 (i 1).val := congrArg (BitVec.ofNat 32) (Nat.zero_add _)
  rw [← e0, ← e1]
  rfl

theorem v23_eq (t : ℕ) : Scalar.addi (Scalar.muli (Scf.iv 0#32 1#32 t) 800000#32) 3453687069#32 = BitVec.ofNat 32 t * 800000#32 + 3453687069#32 := by
  have e : Scf.iv 0#32 1#32 t = BitVec.ofNat 32 t := by unfold Scf.iv; rw [BitVec.mul_one, BitVec.zero_add]
  rw [e]
  rfl

/-- A lane's counter. -/
theorem cnt_apply (t j : ℕ) (i : Z.Idx) (r : Fin 128) (h : r.val = 8 * t + (i 0).val) (hj : start j + (i 1).val < 100000) :
    cnt k0_pay1 (Scalar.addi (Scalar.muli (Scf.iv 0#32 1#32 t) 800000#32) 3453687069#32) j i
      = BitVec.ofNat 32 (Line.ctr (cell r (start j + (i 1).val))) + 3453687069#32 := by
  have e : Line.ctr (cell r (start j + (i 1).val)) = 100000 * (8 * t + (i 0).val) + (start j + (i 1).val) := by
    show 100000 * r.val + (start j + (i 1).val) % 100000 = _
    rw [h, Nat.mod_eq_of_lt hj]
  rw [e, v23_eq, ← words_eq, ← pay1_apply]
  rfl

/-- A lane's score. -/
theorem score_apply (t : Fin 16) (j : ℕ) (hj : j < 98) (i : Z.Idx) (r : Fin 128) (h : r.val = 8 * t.val + (i 0).val) :
    (addf (chunk (payload c X t) j) (noise (cnt k0_pay1 (Scalar.addi (Scalar.muli (Scf.iv 0#32 1#32 t.val) 800000#32) 3453687069#32) j)) : FVec Ideal Z .f32) i
      = Line.total (F := Ideal) X (cell r (start j + (i 1).val)) := by
  have hl : (i 1).val < 1024 := (i 1).isLt
  have hb : start j + (i 1).val < 100000 := by unfold start; omega
  rw [Noise.total_apply]
  refine congrArg₂ (fun a b : EReal => a + b) ?_ ?_
  · exact payload_apply c X t _ r _ (by rw [h]; show 8 * t.val + (i 0).val = 8 * t.val + (0 + 1 * (i 0).val); omega)
      (by show start j + 1 * (i 1).val = _; omega)
  · exact Noise.noise_apply _ i _ (cnt_apply t.val j i r h hb)

/-- The kernel's result of a row. -/
theorem res_eq (y : S128x1.Idx) (n : S128.Idx) (hn : (n 0).val = (y 0).val) : res (F := Ideal) c X v3K y = Line.best (Line.total (F := Ideal) X) n := by
  have hy : (y 0).val < 128 := (y 0).isLt
  obtain ⟨q, hq, hbest⟩ := best_lead (Line.total (F := Ideal) X) n
  rw [hbest]
  unfold res
  have hb : Ring.bk 16 ((y 0).val / 8) = (⟨(y 0).val / 8, by omega⟩ : Fin 16) := Fin.ext (Nat.mod_eq_of_lt (by omega))
  rw [hb]
  have hr : ∀ l : Fin 1024, Lead (fun k => Line.total (F := Ideal) X (cell (n 0) k)) (met l.val 98)
      ((tripSt v3K ((y 0).val / 8) (payload c X ⟨(y 0).val / 8, by omega⟩)).1 (zix ⟨(y 0).val % 8, Nat.mod_lt _ (by omega)⟩ l),
       (tripSt v3K ((y 0).val / 8) (payload c X ⟨(y 0).val / 8, by omega⟩)).2 (zix ⟨(y 0).val % 8, Nat.mod_lt _ (by omega)⟩ l)) := by
    intro l
    refine scan_lead _ v3K k0_pay1 _ (zix ⟨(y 0).val % 8, Nat.mod_lt _ (by omega)⟩ l) _ (fun j _ => col_apply j _)
      (fun j hj => score_apply c X ⟨(y 0).val / 8, by omega⟩ j hj _ (n 0) ?_) 98 0 init (by omega) ?_
    · rw [hn]; show (y 0).val = 8 * ((y 0).val / 8) + (y 0).val % 8; omega
    · rw [met_zero]
      have e : ((init (F := Ideal)).1 (zix ⟨(y 0).val % 8, Nat.mod_lt _ (by omega)⟩ l), (init (F := Ideal)).2 (zix ⟨(y 0).val % 8, Nat.mod_lt _ (by omega)⟩ l))
          = ((⊥ : EReal), 0#32) := Prod.ext Noise.ofBits_bot rfl
      rw [e]
      exact Lead.nil
  generalize tripSt v3K ((y 0).val / 8) (payload c X ⟨(y 0).val / 8, by omega⟩) = st at hr ⊢
  exact pick_eq st _ q (fun l => Lead.le hq hr met_bound l) (Lead.attained hq hr met_bound met_cover)
    (fun l hl => Lead.least hq hr met_bound (by omega) l hl)

/-- What the kernel's run returns is what the reference's returns, on the same logits. -/
theorem value_eq (h : S128x1.ShapeCasts S128) : shapeCast S128 (res (F := Ideal) c X v3K) h = Line.best (Line.total (F := Ideal) X) := by
  funext n
  refine res_eq c X _ n ?_
  have e := Shape.rowMajor_reshapeEquiv h n
  have e1 := Shape.rowMajor_val_one n
  have e2 := Shape.rowMajor_val_two (Shape.reshapeEquiv h n)
  have hz : ((Shape.reshapeEquiv h n) 1).val < 1 := ((Shape.reshapeEquiv h n) 1).isLt
  rw [e1, e2] at e
  rw [← e]
  show ((Shape.reshapeEquiv h n) 0).val * 1 + ((Shape.reshapeEquiv h n) 1).val = ((Shape.reshapeEquiv h n) 0).val
  omega

end Cert.KernelIdeal.Gen

end
-- ==== Proof.lean ====
/- The claim. The kernel's run, at any floats, is Proof/Wire.lean (carried to the kernel's own program in Proof/Same.lean); the reference's is
   Proof/Ref.lean; that the two results agree at the extended reals is Proof/Value.lean. -/
module

public import proofs.«01_k».proof.Defs
public import proofs.«01_k».proof.Proof.Same
public import proofs.«01_k».proof.Proof.Ref
public import proofs.«01_k».proof.Proof.Value

@[expose] public section

noncomputable section

namespace Cert.Proof

open Idealize.ShloMosaic Idealize.SL.Sem

/-- The kernel over the extended reals terminates, keeps its argument and leaves its semaphores at zero. -/
theorem quiescent_kernelIdeal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Gen.run_value (F := Ideal) m g)

/-- So does the reference. -/
theorem quiescent_referenceIdeal : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩) (Line.run (F := Ideal) m g)

/-- On equal logits the kernel and the reference return the same index for every row. -/
theorem algebraic : Cert.algebraic_KernelIdeal_ReferenceIdeal (hKernelIdeal := Cert.KernelIdeal.Gen.facts) (hReferenceIdeal := Cert.ReferenceIdeal.Gen.facts) :=
  fun m g m' g' _ h =>
    ⟨fun c => Line.best (F := Ideal) (Line.total (F := Ideal) (m ((c.tc : Thread Cert.KernelIdeal.nD Cert.KernelIdeal.τ).loc Cert.KernelIdeal.main_arg0))),
      (θ_run (Cert.KernelIdeal.defs (F := Ideal)) _ _).mono
        (fun _ hr c => ⟨(hr.1 c).1.trans (Cert.KernelIdeal.Gen.value_eq c _ _), (hr.1 c).2⟩) (Cert.KernelIdeal.Gen.run_value (F := Ideal) m g),
      (θ_run (Cert.ReferenceIdeal.defs (F := Ideal)) _ _).mono
        (fun _ hr c => ⟨(hr.1 c).1.trans (congrArg (fun x => Line.best (F := Ideal) (Line.total (F := Ideal) x)) (h c)), (hr.1 c).2⟩)
        (Line.run (F := Ideal) m' g')⟩

/-- All five claims. -/
theorem claim : Cert.Claim :=
  ⟨Cert.Kernel.Gen.facts, Cert.KernelIdeal.Gen.facts, Cert.ReferenceIdeal.Gen.facts, Same.quiescent, quiescent_kernelIdeal,
    quiescent_referenceIdeal, trivial, algebraic⟩

end Cert.Proof

end
